-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16x64x64 : Shape := ⟨3, ![16, 64, 64]⟩
abbrev S_ : Shape := ⟨0, ![]⟩
abbrev S15 : Shape := ⟨1, ![15]⟩
abbrev S1 : Shape := ⟨1, ![1]⟩
abbrev S1x64x64 : Shape := ⟨3, ![1, 64, 64]⟩
abbrev S64x64 : Shape := ⟨2, ![64, 64]⟩

abbrev nBuf : Space → Nat
  | .hbm => 3
  | .vmem => 4
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S1024x1024, .f32⟩
  | .local _ .vmem, ⟨3, _⟩ => ⟨S16x64x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_67 : BitVec 32 := 0#32
  let c0_i32_68 : BitVec 32 := 0#32
  ![v2.toNat, 0, 0]
def k0_off2 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c64_i32 : BitVec 32 := 64#32
  let v66 : BitVec 32 := Scalar.muli v65 c64_i32
  let c0_i32_69 : BitVec 32 := 0#32
  ![v66.toNat, 0]
def k0_dev16 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_65 : BitVec 32 := 1#32
  let v67 : BitVec 32 := Scalar.muli v65 c1_i32_65
  let v68 : BitVec 32 := Scalar.addi c0_i32_66 v67
  v68.toNat
def k0_dev17 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_70 : BitVec 32 := 15#32
  let v76 : BitVec 32 := Scalar.addi v2 c15_i32_70
  let c16_i32_71 : BitVec 32 := 16#32
  let v77 : BitVec 32 := Scalar.remsi v76 c16_i32_71
  let c1_i32_75 : BitVec 32 := 1#32
  let v79 : BitVec 32 := Scalar.muli v77 c1_i32_75
  let v80 : BitVec 32 := Scalar.addi c0_i32_76 v79
  v80.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v88 : BitVec 32 := Scalar.addi v2 c2_i32_80
  let c16_i32_81 : BitVec 32 := 16#32
  let v89 : BitVec 32 := Scalar.remsi v88 c16_i32_81
  let c1_i32_85 : BitVec 32 := 1#32
  let v91 : BitVec 32 := Scalar.muli v89 c1_i32_85
  let v92 : BitVec 32 := Scalar.addi c0_i32_86 v91
  v92.toNat
def k0_dev19 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_90 : BitVec 32 := 14#32
  let v100 : BitVec 32 := Scalar.addi v2 c14_i32_90
  let c16_i32_91 : BitVec 32 := 16#32
  let v101 : BitVec 32 := Scalar.remsi v100 c16_i32_91
  let c1_i32_95 : BitVec 32 := 1#32
  let v103 : BitVec 32 := Scalar.muli v101 c1_i32_95
  let v104 : BitVec 32 := Scalar.addi c0_i32_96 v103
  v104.toNat
def k0_dev20 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_100 : BitVec 32 := 3#32
  let v112 : BitVec 32 := Scalar.addi v2 c3_i32_100
  let c16_i32_101 : BitVec 32 := 16#32
  let v113 : BitVec 32 := Scalar.remsi v112 c16_i32_101
  let c1_i32_105 : BitVec 32 := 1#32
  let v115 : BitVec 32 := Scalar.muli v113 c1_i32_105
  let v116 : BitVec 32 := Scalar.addi c0_i32_106 v115
  v116.toNat
def k0_dev21 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_110 : BitVec 32 := 13#32
  let v124 : BitVec 32 := Scalar.addi v2 c13_i32_110
  let c16_i32_111 : BitVec 32 := 16#32
  let v125 : BitVec 32 := Scalar.remsi v124 c16_i32_111
  let c1_i32_115 : BitVec 32 := 1#32
  let v127 : BitVec 32 := Scalar.muli v125 c1_i32_115
  let v128 : BitVec 32 := Scalar.addi c0_i32_116 v127
  v128.toNat
def k0_dev22 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_120 : BitVec 32 := 4#32
  let v136 : BitVec 32 := Scalar.addi v2 c4_i32_120
  let c16_i32_121 : BitVec 32 := 16#32
  let v137 : BitVec 32 := Scalar.remsi v136 c16_i32_121
  let c1_i32_125 : BitVec 32 := 1#32
  let v139 : BitVec 32 := Scalar.muli v137 c1_i32_125
  let v140 : BitVec 32 := Scalar.addi c0_i32_126 v139
  v140.toNat
def k0_dev23 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_130 : BitVec 32 := 12#32
  let v148 : BitVec 32 := Scalar.addi v2 c12_i32_130
  let c16_i32_131 : BitVec 32 := 16#32
  let v149 : BitVec 32 := Scalar.remsi v148 c16_i32_131
  let c1_i32_135 : BitVec 32 := 1#32
  let v151 : BitVec 32 := Scalar.muli v149 c1_i32_135
  let v152 : BitVec 32 := Scalar.addi c0_i32_136 v151
  v152.toNat
def k0_dev24 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_140 : BitVec 32 := 5#32
  let v160 : BitVec 32 := Scalar.addi v2 c5_i32_140
  let c16_i32_141 : BitVec 32 := 16#32
  let v161 : BitVec 32 := Scalar.remsi v160 c16_i32_141
  let c1_i32_145 : BitVec 32 := 1#32
  let v163 : BitVec 32 := Scalar.muli v161 c1_i32_145
  let v164 : BitVec 32 := Scalar.addi c0_i32_146 v163
  v164.toNat
def k0_dev25 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_150 : BitVec 32 := 11#32
  let v172 : BitVec 32 := Scalar.addi v2 c11_i32_150
  let c16_i32_151 : BitVec 32 := 16#32
  let v173 : BitVec 32 := Scalar.remsi v172 c16_i32_151
  let c1_i32_155 : BitVec 32 := 1#32
  let v175 : BitVec 32 := Scalar.muli v173 c1_i32_155
  let v176 : BitVec 32 := Scalar.addi c0_i32_156 v175
  v176.toNat
def k0_dev26 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_160 : BitVec 32 := 6#32
  let v184 : BitVec 32 := Scalar.addi v2 c6_i32_160
  let c16_i32_161 : BitVec 32 := 16#32
  let v185 : BitVec 32 := Scalar.remsi v184 c16_i32_161
  let c1_i32_165 : BitVec 32 := 1#32
  let v187 : BitVec 32 := Scalar.muli v185 c1_i32_165
  let v188 : BitVec 32 := Scalar.addi c0_i32_166 v187
  v188.toNat
def k0_dev27 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_170 : BitVec 32 := 10#32
  let v196 : BitVec 32 := Scalar.addi v2 c10_i32_170
  let c16_i32_171 : BitVec 32 := 16#32
  let v197 : BitVec 32 := Scalar.remsi v196 c16_i32_171
  let c1_i32_175 : BitVec 32 := 1#32
  let v199 : BitVec 32 := Scalar.muli v197 c1_i32_175
  let v200 : BitVec 32 := Scalar.addi c0_i32_176 v199
  v200.toNat
def k0_dev28 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_180 : BitVec 32 := 7#32
  let v208 : BitVec 32 := Scalar.addi v2 c7_i32_180
  let c16_i32_181 : BitVec 32 := 16#32
  let v209 : BitVec 32 := Scalar.remsi v208 c16_i32_181
  let c1_i32_185 : BitVec 32 := 1#32
  let v211 : BitVec 32 := Scalar.muli v209 c1_i32_185
  let v212 : BitVec 32 := Scalar.addi c0_i32_186 v211
  v212.toNat
def k0_dev29 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_190 : BitVec 32 := 9#32
  let v220 : BitVec 32 := Scalar.addi v2 c9_i32_190
  let c16_i32_191 : BitVec 32 := 16#32
  let v221 : BitVec 32 := Scalar.remsi v220 c16_i32_191
  let c1_i32_195 : BitVec 32 := 1#32
  let v223 : BitVec 32 := Scalar.muli v221 c1_i32_195
  let v224 : BitVec 32 := Scalar.addi c0_i32_196 v223
  v224.toNat
def k0_dev30 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_200 : BitVec 32 := 8#32
  let v232 : BitVec 32 := Scalar.addi v2 c8_i32_200
  let c16_i32_201 : BitVec 32 := 16#32
  let v233 : BitVec 32 := Scalar.remsi v232 c16_i32_201
  let c1_i32_205 : BitVec 32 := 1#32
  let v235 : BitVec 32 := Scalar.muli v233 c1_i32_205
  let v236 : BitVec 32 := Scalar.addi c0_i32_206 v235
  v236.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_210 : BitVec 32 := 64#32
  let v244 : BitVec 32 := Scalar.muli v2 c64_i32_210
  let v245 : Index := Scalar.indexCast v244
  let c0 : Index := 0#32
  ![v245.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v248 : Index := Scalar.indexCast v2
  let c0_211 : Index := 0#32
  let c0_212 : Index := 0#32
  ![v248.toNat, 0, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_215 : BitVec 32 := 64#32
  let v255 : BitVec 32 := Scalar.muli v2 c64_i32_215
  let v256 : Index := Scalar.indexCast v255
  let c0_216 : Index := 0#32
  ![v256.toNat, 0]
def k0_off6 (d0 : Dev nD) (c1_i32_217 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v259 : BitVec 32 := Scalar.subi v2 c1_i32_217
  let c16_i32_218 : BitVec 32 := 16#32
  let v260 : BitVec 32 := Scalar.addi v259 c16_i32_218
  let c16_i32_219 : BitVec 32 := 16#32
  let v261 : BitVec 32 := Scalar.remsi v260 c16_i32_219
  let c0_i32_224 : BitVec 32 := 0#32
  let c0_i32_225 : BitVec 32 := 0#32
  ![v261.toNat, 0, 0]
def k0_off7 (d0 : Dev nD) (c1_i32_217 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v259 : BitVec 32 := Scalar.subi v2 c1_i32_217
  let c16_i32_218 : BitVec 32 := 16#32
  let v260 : BitVec 32 := Scalar.addi v259 c16_i32_218
  let c16_i32_219 : BitVec 32 := 16#32
  let v261 : BitVec 32 := Scalar.remsi v260 c16_i32_219
  let v269 : Index := Scalar.indexCast v261
  let c0_228 : Index := 0#32
  let c0_229 : Index := 0#32
  ![v269.toNat, 0, 0]
def k0_off8 (d0 : Dev nD) (c1_i32_217 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v259 : BitVec 32 := Scalar.subi v2 c1_i32_217
  let c16_i32_218 : BitVec 32 := 16#32
  let v260 : BitVec 32 := Scalar.addi v259 c16_i32_218
  let c16_i32_219 : BitVec 32 := 16#32
  let v261 : BitVec 32 := Scalar.remsi v260 c16_i32_219
  let c64_i32_230 : BitVec 32 := 64#32
  let v272 : BitVec 32 := Scalar.muli v261 c64_i32_230
  let v273 : Index := Scalar.indexCast v272
  let c0_231 : Index := 0#32
  ![v273.toNat, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geometry.lean ====
/-
Who exchanges with whom, through which pieces of which buffers, and what those pieces hold. Sixteen devices; device
`c` sends, for every offset `r = 0 … 14`, row block `fore c r` of its own `x` to device `fore c r`, which puts it in slot `c` of
its gather buffer. So after the exchange slot `s` of device `c` holds row block `c` of device `s`'s `x` — `gath c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.VecWindow
public import Idealize.ShloMosaic.Lib.Tactic
public import Idealize.ShloMosaic.Lib.PointwiseCore

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device `r + 1` places after `c`. -/
def fore (c : Dev nD) (r : Fin 15) : Dev nD := ⟨(c.val + r.val + 1) % 16, Nat.mod_lt _ (by decide)⟩
/-- The device `r + 1` places before `c`. -/
def back (c : Dev nD) (r : Fin 15) : Dev nD := ⟨((c.val + 15) - r.val) % 16, Nat.mod_lt _ (by decide)⟩

/-- Going back and then as far forward ends where it began … -/
theorem fore_back (c : Dev nD) (r : Fin 15) : fore (back c r) r = c := by revert c r; decide +kernel
/-- … and so does going forward and then as far back. -/
theorem back_fore (c : Dev nD) (r : Fin 15) : back (fore c r) r = c := by revert c r; decide +kernel
/-- Going back `r + 1` places is going forward `15 - r`. -/
theorem back_eq (c : Dev nD) (r : Fin 15) : back c r = fore c r.rev := by revert c r; decide +kernel
/-- No offset leads from a device to itself. -/
theorem fore_ne (c : Dev nD) (r : Fin 15) : fore c r ≠ c := by revert c r; decide +kernel
/-- Different offsets forward lead to different devices. -/
theorem fore_inj (c : Dev nD) : Function.Injective (fore c) := by
  intro r r' h; revert c r r'; decide +kernel
/-- So do different offsets backward. -/
theorem back_inj (c : Dev nD) : Function.Injective (back c) := by
  intro r r' h; revert c r r'; decide +kernel

/-- Every device shifted by the same offset: a permutation of the devices. -/
def shift (r : Fin 15) : Dev nD ≃ Dev nD := ⟨fun c => fore c r, fun c => back c r, fun c => back_fore c r, fun c => fore_back c r⟩

/-- The order the kernel sends and collects in: nearest on either side first. -/
abbrev ord : List (Fin 15) := [0, 14, 1, 13, 2, 12, 3, 11, 4, 10, 5, 9, 6, 8, 7]
/-- The order the kernel signals in. -/
abbrev fwd : List (Fin 15) := [0, 1, 2, 3, 4, 5, 6, 7, 8, 9, 10, 11, 12, 13, 14]

/-- The order of sending names no offset twice … -/
theorem ord_nodup : ord.Nodup := by decide
/-- … and leaves none out. -/
theorem ord_all : ∀ r, r ∈ ord := by decide
/-- The order of signalling names no offset twice … -/
theorem fwd_nodup : fwd.Nodup := by decide
/-- … and leaves none out. -/
theorem fwd_all : ∀ r, r ∈ fwd := by decide

/-- The devices are `c` itself and the fifteen others, by offset forward … -/
theorem univ_fore (c : Dev nD) : (Finset.univ : Finset (Dev nD)) = insert c (Finset.univ.map ⟨fore c, fore_inj c⟩) := by
  revert c; decide +kernel
/-- … or backward. -/
theorem univ_back (c : Dev nD) : (Finset.univ : Finset (Dev nD)) = insert c (Finset.univ.map ⟨back c, back_inj c⟩) := by
  revert c; decide +kernel
/-- A device is not among the fifteen others, counted forward … -/
theorem not_mem_fore (c : Dev nD) : c ∉ Finset.univ.map ⟨fore c, fore_inj c⟩ := by revert c; decide +kernel
/-- … or backward. -/
theorem not_mem_back (c : Dev nD) : c ∉ Finset.univ.map ⟨back c, back_inj c⟩ := by revert c; decide +kernel

/-! ## The buffers and their pieces -/

/-- Device-local `x`, where the pipeline staged it; -/
abbrev xM : Memref sig .tc .vmem S1024x64 .f32 := Memref.whole cc0_stg0_0
/-- the result, before it is written back; -/
abbrev oM : Memref sig .tc .vmem S64x1024 .f32 := Memref.whole cc0_stg1_0
/-- the copy of `w` the products read; -/
abbrev wM : Memref sig .tc .vmem S1024x1024 .f32 := Memref.whole cc0_scratch0
/-- the gather buffer, sixteen matrices; -/
abbrev gM : Memref sig .tc .vmem S16x64x64 .f32 := Memref.whole cc0_scratch1
/-- and `w` as the kernel is given it. -/
abbrev hM : Memref sig .tc .hbm S1024x1024 .f32 := Memref.whole main_arg1

/-- Row block `t` of `x` starts at row `64 t`; -/
abbrev rowOff (t : Dev nD) : Fin 2 → ℕ := ![64 * t.val, 0]
/-- slot `s` of the gather buffer is its `s`-th matrix. -/
abbrev slotOff (s : Dev nD) : Fin 3 → ℕ := ![s.val, 0, 0]

/-- Row block `t` lies inside `x`; -/
theorem x_inb (t : Dev nD) : ∀ a, rowOff t a + S64x64.size a ≤ S1024x64.size a := by revert t; decide +kernel
/-- inside `w`; -/
theorem w_inb (t : Dev nD) : ∀ a, rowOff t a + S64x1024.size a ≤ S1024x1024.size a := by revert t; decide +kernel
/-- and slot `s` inside the gather buffer. -/
theorem slot_inb (s : Dev nD) : ∀ a, slotOff s a + S1x64x64.size a ≤ S16x64x64.size a := by revert s; decide +kernel

/-- The rectangle of row block `t` of `x`; -/
abbrev xR (t : Dev nD) : Rect S1024x64 := Rect.unit (s := S1024x64) (rowOff t) S64x64.size (x_inb t)
/-- of row block `t` of `w`; -/
abbrev wR (t : Dev nD) : Rect S1024x1024 := Rect.unit (s := S1024x1024) (rowOff t) S64x1024.size (w_inb t)
/-- and of slot `s`. -/
abbrev gR (s : Dev nD) : Rect S16x64x64 := Rect.unit (s := S16x64x64) (slotOff s) S1x64x64.size (slot_inb s)

/-- Row block `t` of `x`. -/
abbrev xBlk (t : Dev nD) : Memref sig .tc .vmem S64x64 .f32 := xM.slice (xR t) (fun _ => rfl)
/-- Slot `s` of the gather buffer, as a matrix. -/
abbrev slot (s : Dev nD) : Memref sig .tc .vmem S64x64 .f32 := (gM.slice (gR s) (fun _ => rfl)).squeeze S64x64 squeezes_S1x64x64_S64x64

/-- The elements of row block `t`, and of slot `s`. -/
abbrev xSet (t : Dev nD) : Finset (S1024x64).Idx := (xR t).set
/-- The elements of slot `s`. -/
abbrev gSet (s : Dev nD) : Finset (S16x64x64).Idx := (gR s).set

/-- Row block `t` occupies exactly its rectangle; -/
theorem xBlk_set (t : Dev nD) : (xBlk t).view.set = xSet t := View.set_slice_whole cc0_stg0_0 (xR t)
/-- so does slot `s`, read as a matrix. -/
theorem slot_set (s : Dev nD) : (slot s).view.set = gSet s :=
  (View.set_reshape _ _).trans (View.set_slice_whole cc0_scratch1 (gR s))

/-- Different row blocks share no element; -/
theorem x_disj (b b' : Dev nD) (h : b ≠ b') : Disjoint (xSet b) (xSet b') :=
  Ring.lead_disjoint (s := S1024x64) (0 : Fin 2) 64 rowOff S64x64.size x_inb (fun _ => rfl) rfl b b' h
/-- together they are all of `x`. -/
theorem x_cover : Finset.univ.biUnion xSet = Finset.univ :=
  Ring.lead_cover (s := S1024x64) (0 : Fin 2) 64 rowOff S64x64.size x_inb (fun _ => rfl)
    (fun b a ha => by fin_cases a; · exact absurd rfl ha
                      · rfl) rfl
    (fun a ha => by fin_cases a; · exact absurd rfl ha
                    · rfl) rfl
/-- Different slots share no element; -/
theorem g_disj (b b' : Dev nD) (h : b ≠ b') : Disjoint (gSet b) (gSet b') :=
  Ring.lead_disjoint (s := S16x64x64) (0 : Fin 3) 1 slotOff S1x64x64.size slot_inb (fun b => (Nat.one_mul _).symm) rfl b b' h
/-- together they are all of the gather buffer. -/
theorem g_cover : Finset.univ.biUnion gSet = Finset.univ :=
  Ring.lead_cover (s := S16x64x64) (0 : Fin 3) 1 slotOff S1x64x64.size slot_inb (fun b => (Nat.one_mul _).symm)
    (fun b a ha => by fin_cases a; · exact absurd rfl ha
                      · rfl
                      · rfl) rfl
    (fun a ha => by fin_cases a; · exact absurd rfl ha
                    · rfl
                    · rfl) rfl

/-! ## Contents -/

/-- Device `c`'s `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Row block `t` of device `c`'s `x`. -/
def xblk (c t : Dev nD) : S64x64.Idx → Elt F .f32 := (xBlk t).view.read (Elt F) (xstg m ρ c)

/-- Device `c`'s gather buffer after the exchange: slot `s` is row block `c` of device `s`'s `x`. -/
def gath (c : Dev nD) : (cc0_scratch1 : Ref sig .tc).ty.Contents (Elt F) := fun (i : S16x64x64.Idx) =>
  xblk m ρ (i 0) c (ix2 (i 1) (i 2))

/-- Device `c`'s second argument, the whole of `w`. -/
def warr (c : Dev nD) : (main_arg1 : Ref sig .tc).ty.Contents (Elt F) := (s₀ m ρ).mem ((c : Thread nD τ).loc main_arg1)

/-- A slot's elements hold the sending device's row block, entry by entry. -/
theorem gath_slot (c s : Dev nD) (y : S64x64.Idx) : gath m ρ c ((slot s).view.emb y) = xblk m ρ s c y := by
  show gath m ρ c ((gR s).emb (Shape.reshapeEquiv _ y)) = _
  idx_vars y
  simp only [pointwise]
  unfold gath
  have h0 : (gR s).emb (ix3 0 y0 y1) 0 = s := Fin.ext (by show s.val + 1 * 0 = s.val; omega)
  have h1 : (gR s).emb (ix3 0 y0 y1) 1 = y0 := Fin.ext (by show 0 + 1 * y0.val = y0.val; omega)
  have h2 : (gR s).emb (ix3 0 y0 y1) 2 = y1 := Fin.ext (by show 0 + 1 * y1.val = y1.val; omega)
  rw [h0, h1, h2]

/-- What a transfer of device `s`'s row block leaves in slot `s` of device `c` is what the exchange asks for there. -/
theorem landed_eq (c s : Dev nD) (fd : (cc0_scratch1 : Ref sig .tc).ty.Contents (Elt F)) :
    ∀ i ∈ (slot s).view.set, (slot s).view.write (Elt F) fd (xblk m ρ s c) Finset.univ i = gath m ρ c i := by
  intro i hi
  obtain ⟨y, -, rfl⟩ := Finset.mem_map.mp hi
  rw [gath_slot]
  exact View.write_emb_of_mem _ _ (Finset.mem_univ y)

/-- What device `c` reads of its own row block. -/
abbrev xown (c : Dev nD) : Vec F S64x64 .f32 := (xM : Memref sig .tc .vmem S1024x64 .f32).view.readAt (Elt F) (xR c).toLoadRect (xstg m ρ c)

/-- The block a device keeps for itself, stored into its own slot, is what the exchange asks for there. -/
theorem kept_eq (c : Dev nD) (fd : (cc0_scratch1 : Ref sig .tc).ty.Contents (Elt F)) :
    ∀ i ∈ gSet c, ((gM : Memref sig .tc .vmem S16x64x64 .f32).access (gR c) : View sig .tc _ _ _).write (Elt F) fd
        (k0_pay1 (xown m ρ c)) Finset.univ i = gath m ρ c i := by
  intro i hi
  rw [← slot_set] at hi
  obtain ⟨y, -, rfl⟩ := Finset.mem_map.mp hi
  rw [gath_slot]
  refine (View.write_emb_of_mem (v := ((gM : Memref sig .tc .vmem S16x64x64 .f32).access (gR c) : View sig .tc _ _ _)) fd
    (k0_pay1 (xown m ρ c)) (Finset.mem_univ (Shape.reshapeEquiv squeezes_S1x64x64_S64x64.numel_eq y))).trans ?_
  show k0_pay1 (xown m ρ c) (Shape.reshapeEquiv squeezes_S1x64x64_S64x64.numel_eq y) = xown m ρ c y
  generalize xown m ρ c = v
  unfold k0_pay1
  idx_vars y
  simp only [pointwise]

/-- A slot named by other offsets of the same value. -/
theorem slot_of_off {s : Dev nD} {off : Fin 3 → ℕ} (e : off = slotOff s) (h : ∀ a, off a + S1x64x64.size a ≤ S16x64x64.size a) :
    (gM.slice (Rect.unit (s := S16x64x64) off S1x64x64.size h) (fun _ => rfl)).squeeze S64x64 squeezes_S1x64x64_S64x64 = slot s := by
  subst e; rfl
/-- A row block of `x` named by other offsets of the same value. -/
theorem xBlk_of_off {t : Dev nD} {off : Fin 2 → ℕ} (e : off = rowOff t) (h : ∀ a, off a + S64x64.size a ≤ S1024x64.size a) :
    xM.slice (Rect.unit (s := S1024x64) off S64x64.size h) (fun _ => rfl) = xBlk t := by
  subst e; rfl

/-! ## What the kernel reads, and its result -/

/-- What device `c` reads of slot `s`, the exchange done; -/
def slotVal (c s : Dev nD) : Vec F S1x64x64 .f32 := (gM : Memref sig .tc .vmem S16x64x64 .f32).view.readAt (Elt F) (gR s).toLoadRect (gath m ρ c)
/-- and of row block `s` of `w`. -/
def wVal (c s : Dev nD) : Vec F S64x1024 .f32 := (wM : Memref sig .tc .vmem S1024x1024 .f32).view.readAt (Elt F) (wR s).toLoadRect (warr m ρ c)

/-- The running sum after the slots of the devices in `l` (a list of offsets backward) are added to `a`. -/
def sumOver (c : Dev nD) : List (Fin 15) → FVec F S64x1024 .f32 → FVec F S64x1024 .f32
  | [], a => a
  | r :: l, a => sumOver c l (k0_pay3 a (slotVal m ρ c (back c r)) (wVal m ρ c (back c r)))

/-- The running sum's start: device `c`'s own block. -/
def sumOwn (c : Dev nD) : FVec F S64x1024 .f32 := k0_pay2 (slotVal m ρ c c) (wVal m ρ c c)

/-- The kernel's result on device `c`: the sum over all sixteen blocks, negative entries replaced by zero. -/
def outAt (c : Dev nD) : (cc0_stg1_0 : Ref sig .tc).ty.Contents (Elt F) :=
  maximumf (sumOver m ρ c ord (sumOwn m ρ c)) (broadcast S64x1024 (Scalar.ofBits .f32 0x0#32))

end Cert.Exchange

end
-- ==== Proof.Protocol.lean ====
/-
The protocol of the exchange. Every device has 32 semaphore cells: the barrier cell, the cell of its copy of `w`, fifteen
send cells and fifteen receive cells, one for each offset. Each cell has one round.

  * The barrier cell of `c` has fifteen duties: duty `d` is paid by device `back c d` with its signal, and hands `c` the slot of
    `back c d`'s gather buffer that `c` is to fill. So a device that has waited for fifteen owns its slot on every other device.
  * Receive cell `r` of `c` has one duty, paid by the transfer of device `back c r`: the slot it fills, holding that
    device's row block.
  * Send cell `r` of `c` has one duty, paid by `c`'s own transfer: the row block it read, back.
  * The copy cell has one duty, paid by the copy: `w` on the chip, and the array it was read from.
-/
module

public import proofs.«01_k».proof.Proof.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state of the cells' rounds, fifteen duty names to a cell; -/
abbrev UB : Type := URounds (GSem nD τ sig) (Fin 15)
/-- and that beside the pipeline's own. -/
abbrev UU : Type := UR sig nD τ × UB

local notation "𝕄" => MT nD τ sig Unit (Elt F) ℕ UU ℕ

/-- Where the pipeline's ghost state sits in the whole; -/
abbrev EP : Emb (UR sig nD τ) (MT nD τ sig Unit (Elt F) ℕ UU ℕ) := embL
/-- and the rounds'. -/
abbrev ER : Emb UB (MT nD τ sig Unit (Elt F) ℕ UU ℕ) := embR

variable (m : (ℓ : Loc nD τ sig) → Buf (Elt F) ℓ) (ρ : Dev nD → PrngReg)

/-! ## A list of resources -/

section ListSep

variable {α : Type} [DecidableEq α]

/-- What every member of a list contributes, held one after the other. -/
def listSep (P : α → sProp 𝕄) : List α → sProp 𝕄
  | [] => iprop(emp)
  | a :: l => iprop(P a ∗ listSep P l)

omit [DecidableEq α] [FloatOps F] in
theorem listSep_cons (P : α → sProp 𝕄) (a : α) (l : List α) : listSep P (a :: l) = iprop(P a ∗ listSep P l) := rfl

omit [FloatOps F] in
/-- For a list without repetition that is the conjunction over its members. -/
theorem listSep_eq (P : α → sProp 𝕄) {l : List α} (h : l.Nodup) : listSep P l = bigSep l.toFinset P := by
  induction l with
  | nil => exact (bigSep_empty).symm
  | cons a l ih =>
    rw [List.nodup_cons] at h
    rw [listSep_cons, ih h.2, List.toFinset_cons, bigSep_insert (by rw [List.mem_toFinset]; exact h.1)]; rfl

omit [FloatOps F] in
/-- A list of everything, once each: the conjunction over the whole type. -/
theorem listSep_univ [Fintype α] (P : α → sProp 𝕄) {l : List α} (h : l.Nodup) (hl : ∀ a, a ∈ l) :
    listSep P l = bigSep Finset.univ P := by
  rw [listSep_eq P h]
  exact congrArg (fun s => bigSep s P) (Finset.ext fun a => by simp [hl a])

end ListSep

/-! ## Cells -/

/-- The barrier semaphore of the collective (the runtime's, not scoped to the launch). -/
abbrev barS : Sem sig := (SemArray.scalar (sig.barrier 0 rfl) : Sems sig S_).sem
/-- The semaphore of the copy of `w`, and the send and receive semaphores of each offset. -/
def copyS : DmaSem sig := ⟨2, by decide⟩
/-- The semaphore of the transfer at offset `r`, on the sender; -/
def sendS (r : Fin 15) : DmaSem sig := ⟨3 + r.val, by have := r.isLt; show 3 + r.val < 33; omega⟩
/-- and on the receiver. -/
def recvS (r : Fin 15) : DmaSem sig := ⟨18 + r.val, by have := r.isLt; show 18 + r.val < 33; omega⟩

/-- The kernel's own cells of a device: the copy's, the sends', the receives'; -/
abbrev OK : Type := Unit ⊕ (Fin 15 ⊕ Fin 15)
/-- with the barrier's, all its cells. -/
abbrev CK : Type := Unit ⊕ OK

/-- The barrier cell; -/
abbrev kbar : CK := .inl ()
/-- the cell of the copy of `w`; -/
abbrev kcopy : CK := .inr (.inl ())
/-- the send cell of offset `r`; -/
abbrev ksend (r : Fin 15) : CK := .inr (.inr (.inl r))
/-- the receive cell of offset `r`. -/
abbrev krecv (r : Fin 15) : CK := .inr (.inr (.inr r))

/-- The semaphores the kernel allocates itself. -/
abbrev osem : OK → SemLoc sig
  | .inl _ => .dma copyS
  | .inr (.inl r) => .dma (sendS r)
  | .inr (.inr r) => .dma (recvS r)
/-- The semaphore behind each cell. -/
abbrev csem : CK → SemLoc sig
  | .inl _ => .reg barS
  | .inr k => osem k

/-- Which of a device's cells a semaphore is, if any. -/
def cellNo : SemLoc sig → Option CK
  | .reg s => if s = barS then some kbar else none
  | .dma q => if q.val = 2 then some kcopy
      else if h : 3 ≤ q.val ∧ q.val < 18 then some (ksend ⟨q.val - 3, by omega⟩)
      else if h : 18 ≤ q.val ∧ q.val < 33 then some (krecv ⟨q.val - 18, by omega⟩) else none

/-- Each cell is found again from its semaphore; -/
theorem cellNo_csem : ∀ k : CK, cellNo (csem k) = some k := by decide +kernel
/-- so no two cells share one. -/
theorem csem_inj : Function.Injective csem := fun a b h => by
  have := congrArg cellNo h; rw [cellNo_csem, cellNo_csem] at this; exact Option.some.inj this

/-- Cell `k` of device `c`; -/
abbrev cell (c : Dev nD) (k : CK) : GSem nD τ sig := ((c : Thread nD τ), csem k)
/-- the same, of a pair. -/
abbrev kcell (ck : Dev nD × CK) : GSem nD τ sig := cell ck.1 ck.2

/-- No two pairs name the same cell; -/
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- cells are equal only when device and kind are. -/
theorem cell_eq_iff {c c' : Dev nD} {k k' : CK} : Iff (cell c k = cell c' k') (c = c' ∧ k = k') :=
  ⟨fun h => by have := kcell_inj (a₁ := (c, k)) (a₂ := (c', k')) h; exact ⟨congrArg Prod.fst this, congrArg Prod.snd this⟩,
   fun h => by rw [h.1, h.2]⟩

/-- What one transfer of a block credits, and what the copy of `w` does. -/
@[irreducible] def N : ℕ := (slot 0 : Memref sig .tc .vmem S64x64 .f32).view.dmaCredit
@[irreducible] def NW : ℕ := (wM : Memref sig .tc .vmem S1024x1024 .f32).view.dmaCredit
/-- A block transfer pays something; -/
theorem N_pos : 0 < N := by unfold N; exact View.dmaCredit_pos _ (by decide)
/-- so does the copy of `w`. -/
theorem NW_pos : 0 < NW := by unfold NW; exact View.dmaCredit_pos _ (by decide)
/-- A transfer into a slot pays a block's units; -/
theorem slot_credit (s : Dev nD) : (slot s : Memref sig .tc .vmem S64x64 .f32).view.dmaCredit = N := by unfold N; rfl
/-- so does one out of a row block; -/
theorem xBlk_credit (t : Dev nD) : (xBlk t : Memref sig .tc .vmem S64x64 .f32).view.dmaCredit = N := by
  unfold N
  refine Eq.trans (b := (xBlk 0 : Memref sig .tc .vmem S64x64 .f32).view.dmaCredit) rfl ?_
  decide +kernel
/-- the copy of `w` pays its own. -/
theorem w_credit : (wM : Memref sig .tc .vmem S1024x1024 .f32).view.dmaCredit = NW := by unfold NW; rfl

/-! ## What changes hands -/

/-- Slot `s` of device `c`'s gather buffer, holding `f`. -/
def slotPts (c s : Dev nD) (f : (cc0_scratch1 : Ref sig .tc).ty.Contents (Elt F)) : sProp 𝕄 :=
  ((c : Thread nD τ).loc cc0_scratch1) ↦[gSet s]{fullShare} f
/-- Row block `t` of device `c`'s `x`. -/
def xPts (c t : Dev nD) : sProp 𝕄 := ((c : Thread nD τ).loc cc0_stg0_0) ↦[xSet t]{fullShare} xstg m ρ c
/-- `w` on the chip, and the array it came from. -/
def wPts (c : Dev nD) : sProp 𝕄 := ((c : Thread nD τ).loc cc0_scratch0) ↦{fullShare} warr m ρ c
/-- `w` as device `c` was given it, owned whole. -/
def hPts (c : Dev nD) : sProp 𝕄 := ((c : Thread nD τ).loc main_arg1) ↦{fullShare} warr m ρ c

omit [FloatOps F] in
instance slotPts_storable (c s : Dev nD) (f) : BI.Storable (upEmb : UEmb _ 𝕄) (slotPts (F := F) c s f) := by
  unfold slotPts; infer_instance
omit [FloatOps F] in
instance xPts_storable (c t : Dev nD) : BI.Storable (upEmb : UEmb _ 𝕄) (xPts (F := F) m ρ c t) := by unfold xPts; infer_instance
omit [FloatOps F] in
instance wPts_storable (c : Dev nD) : BI.Storable (upEmb : UEmb _ 𝕄) (wPts (F := F) m ρ c) := by unfold wPts; infer_instance
omit [FloatOps F] in
instance hPts_storable (c : Dev nD) : BI.Storable (upEmb : UEmb _ 𝕄) (hPts (F := F) m ρ c) := by unfold hPts; infer_instance

/-- What duty `d` of device `c`'s cell `k` hands over. -/
def pay (c : Dev nD) (k : CK) (d : Fin 15) : sProp 𝕄 :=
  match k with
  | .inl _ => iprop(∃ f, slotPts (back c d) c f)
  | .inr (.inl _) => iprop(wPts m ρ c ∗ hPts m ρ c)
  | .inr (.inr (.inl r)) => xPts m ρ c (fore c r)
  | .inr (.inr (.inr r)) => slotPts c (back c r) (gath m ρ c)

omit [FloatOps F] in
instance pay_storable (c : Dev nD) (k : CK) (d : Fin 15) : BI.Storable (upEmb : UEmb _ 𝕄) (pay (F := F) m ρ c k d) := by
  rcases k with _ | _ | r | r <;> (unfold pay; infer_instance)

/-- How much a duty of cell `k` credits. -/
def amt : CK → ℕ
  | .inl _ => 1
  | .inr (.inl _) => NW
  | .inr (.inr _) => N
/-- Every duty pays something. -/
theorem amt_pos (k : CK) : 0 < amt k := by
  have h1 : 0 < NW := NW_pos
  have h2 : 0 < N := N_pos
  revert h1 h2
  unfold amt
  generalize NW = a
  generalize N = b
  intro h1 h2
  rcases k with _ | _ | r
  · exact Nat.one_pos
  · exact h1
  · exact h2

/-- The duties of cell `k`: the barrier's fifteen, every other cell's one. -/
def dts : CK → Finset (Fin 15)
  | .inl _ => Finset.univ
  | .inr _ => {0}

/-- One round for each cell. -/
def sched : Rounds.Schedule (GSem nD τ sig) (Fin 15) 𝕄 where
  duties g r := if r = 0 ∧ g.1.2 = .tc then (match cellNo g.2 with | some k => dts k | none => ∅) else ∅
  unitless _ := False
  amount g _ _ := match cellNo g.2 with | some k => amt k | none => 1
  payload g _ d := match cellNo g.2 with | some k => pay m ρ g.1.1 k d | none => iprop(emp)
  amount_pos g _ _ _ := by
    cases h : cellNo g.2 with
    | none => exact Nat.one_pos
    | some k => exact amt_pos k

omit [FloatOps F] in
instance sched_storable (g : GSem nD τ sig) (r : ℕ) (d : Fin 15) :
    BI.Storable (upEmb : UEmb _ 𝕄) ((sched (F := F) m ρ).payload g r d) := by
  show BI.Storable upEmb (match cellNo g.2 with | some k => pay m ρ g.1.1 k d | none => iprop(emp))
  cases h : cellNo g.2 with
  | none => infer_instance
  | some k => infer_instance

section Sched

variable (c : Dev nD) (k : CK)

omit [FloatOps F] in
theorem duties_cell : (sched (F := F) m ρ).duties (cell c k) 0 = dts k := by
  dsimp only [sched]; rw [if_pos ⟨rfl, rfl⟩, cellNo_csem]
omit [FloatOps F] in
theorem duties_later (g : GSem nD τ sig) : ∀ r, 1 ≤ r → (sched (F := F) m ρ).duties g r = ∅ :=
  fun r hr => by dsimp only [sched]; rw [if_neg fun h => by omega]
omit [FloatOps F] in
theorem amount_cell (d : Fin 15) : (sched (F := F) m ρ).amount (cell c k) 0 d = amt k := by dsimp only [sched]; rw [cellNo_csem]
omit [FloatOps F] in
theorem payload_cell (d : Fin 15) : (sched (F := F) m ρ).payload (cell c k) 0 d = pay m ρ c k d := by dsimp only [sched]; rw [cellNo_csem]

omit [FloatOps F] in
theorem expect_bar : (sched (F := F) m ρ).expect (cell c kbar) 0 = 15 := by
  unfold Schedule.expect Schedule.amountOf
  rw [duties_cell, Finset.sum_congr rfl fun d _ => amount_cell m ρ c kbar d]; rfl
omit [FloatOps F] in
theorem expect_own (k : OK) : (sched (F := F) m ρ).expect (cell c (.inr k)) 0 = amt (.inr k) := by
  unfold Schedule.expect Schedule.amountOf
  rw [duties_cell]; show Finset.sum {0} _ = _; rw [Finset.sum_singleton, amount_cell]

omit [FloatOps F] in
theorem rest_bar : bigSep ((sched (F := F) m ρ).duties (cell c kbar) 0 \ ∅) (fun d => (sched (F := F) m ρ).payload (cell c kbar) 0 d)
    = bigSep Finset.univ fun d => pay m ρ c kbar d := by
  rw [Finset.sdiff_empty, duties_cell]; exact bigSep_congr fun d _ => payload_cell m ρ c kbar d
omit [FloatOps F] in
theorem rest_own (k : OK) : bigSep ((sched (F := F) m ρ).duties (cell c (.inr k)) 0 \ ∅) (fun d => (sched (F := F) m ρ).payload (cell c (.inr k)) 0 d)
    = pay m ρ c (.inr k) 0 := by
  rw [Finset.sdiff_empty, duties_cell]; show bigSep {0} _ = _; rw [bigSep_singleton, payload_cell]

end Sched

/-! ## What a device owes at launch; the levels -/

/-- The signals still to give, and the transfers still to make. -/
def owedSig (c : Dev nD) : List (Fin 15) → CellTallies nD τ sig Unit
  | [] => 0
  | r :: l => owedSig c l + tallyAt (cell (fore c r) kbar) () 1
/-- What device `c` owes the others for the offsets still to be sent; -/
def owedSend (c : Dev nD) : List (Fin 15) → CellTallies nD τ sig Unit
  | [] => 0
  | r :: l => owedSend c l + tallyAt (cell (fore c r) (krecv r)) () N
/-- what it owes at the start: all its signals and all its transfers. -/
def O₀ (c : Dev nD) : CellTallies nD τ sig Unit := owedSend c ord + owedSig c fwd

/-- Every cell of a core has one level; -/
def L (g : GSem nD τ sig) : Finset Unit := if g.1.2 = .tc then {()} else ∅
/-- Barrier cells are waited on first, receive cells after them; the others by a device that owes nothing, or at the entry. -/
def lvl : CK → ℕ
  | .inl _ => 1
  | .inr (.inr (.inr _)) => 2
  | _ => 0
/-- The level of a semaphore is that of the cell it is behind. -/
def lv (g : GSem nD τ sig) (_ : Unit) : ℕ := match cellNo g.2 with | some k => lvl k | none => 0

/-- No level off the cores; -/
theorem L_of_ne (g : GSem nD τ sig) (h : g.1.2 ≠ .tc) : L g = ∅ := if_neg h
/-- one on them; -/
theorem L_tc (c : Dev nD) (sm : SemLoc sig) : L ((c : Thread nD τ), sm) = {()} := if_pos rfl
/-- a cell's level is its kind's. -/
theorem lv_cell (c : Dev nD) (k : CK) : lv (cell c k) () = lvl k := by unfold lv; rw [cellNo_csem]

/-- What is owed in a sum is owed in a summand. -/
theorem add_pos_cases {O O' : CellTallies nD τ sig Unit} {g : GSem nD τ sig} {u : Unit} (h : 0 < (O + O') g u) : 0 < O g u ∨ 0 < O' g u := by
  rw [Pi.add_apply, Finsupp.add_apply] at h
  rcases Nat.eq_zero_or_pos (O g u) with h0 | h0
  · rw [h0, Nat.zero_add] at h; exact .inr h
  · exact .inl h0

/-- A tally at one cell is owed only there. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- Signals are owed only to barrier cells; -/
theorem owedSig_pos {c : Dev nD} {g : GSem nD τ sig} {u : Unit} (l : List (Fin 15)) (h : 0 < owedSig c l g u) : ∃ d, g = cell d kbar := by
  induction l with
  | nil => exact absurd h (Nat.lt_irrefl 0)
  | cons r l ih =>
    rcases add_pos_cases h with h | h
    · exact ih h
    · exact ⟨_, tallyAt_pos h⟩
/-- transfers only to receive cells. -/
theorem owedSend_pos {c : Dev nD} {g : GSem nD τ sig} {u : Unit} (l : List (Fin 15)) (h : 0 < owedSend c l g u) : ∃ d r, g = cell d (krecv r) := by
  induction l with
  | nil => exact absurd h (Nat.lt_irrefl 0)
  | cons r l ih =>
    rcases add_pos_cases h with h | h
    · exact ih h
    · exact ⟨_, _, tallyAt_pos h⟩

omit [FloatOps F] in
/-- A device waits on a cell at level `n` while every cell it owes lies above. -/
theorem mayWait_cut (c : Dev nD) (sm : SemLoc sig) (n : ℕ) (hn : lv ((c : Thread nD τ), sm) () ≤ n) (O : CellTallies nD τ sig Unit)
    (hO : ∀ g u, 0 < O g u → ∃ d k, g = cell d k ∧ n < lvl k) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, hk⟩ := hO g u hg; rw [lv_cell]; exact hk)

omit [FloatOps F] in
/-- At its barrier wait a device still owes transfers only. -/
theorem mayWait_bar (c : Dev nD) (l : List (Fin 15)) : (levAts L lv : sProp 𝕄) ⊢ MayWait (c : Thread nD τ) (csem kbar) () (owedSend c l) :=
  mayWait_cut c _ 1 (le_of_eq (lv_cell c kbar)) _ fun g u h => by
    obtain ⟨d, r, rfl⟩ := owedSend_pos l h; exact ⟨d, krecv r, rfl, by show _ < 2; decide⟩

omit [FloatOps F] in
/-- At the entry and at the exit the staging cells may be waited on. -/
theorem mayWait_stage (c : Dev nD) (q : DmaSem sig) (hq : cellNo (.dma q) = none) (O : CellTallies nD τ sig Unit) (hO : O = O₀ c ∨ O = 0) :
    (levAts L lv : sProp 𝕄) ⊢ MayWait (c : Thread nD τ) (.dma q) () O := by
  rcases hO with rfl | rfl
  · refine mayWait_cut c _ 0 (by unfold lv; rw [hq]) _ fun g u h => ?_
    rcases add_pos_cases h with h | h
    · obtain ⟨d, r, rfl⟩ := owedSend_pos ord h; exact ⟨d, krecv r, rfl, by show _ < 2; decide⟩
    · obtain ⟨d, rfl⟩ := owedSig_pos fwd h; exact ⟨d, kbar, rfl, by decide⟩
  · rw [MayWait_zero]; iintro -; iempintro

/-! ## What every device knows: the cells' invariants, and that each cell has reached its round -/

/-- Every cell's round is under way, as the schedule says; shared by all devices. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

/-- These records can be kept by all. -/
instance records_persistent (K : Dev nD × CK → ℕ) : BI.Persistent (records m ρ K) := by unfold records; infer_instance

omit [FloatOps F] in
theorem inv_at (K : Dev nD × CK → ℕ) (c : Dev nD) (k : CK) : records m ρ K ⊢ cellInv ER (sched m ρ) (K (c, k)) (cell c k) := by
  have h : (bigSep Finset.univ fun ck : Dev nD × CK => (cellInv ER (sched m ρ) (K ck) (kcell ck) : sProp 𝕄))
      ⊢ cellInv ER (sched m ρ) (K (c, k)) (kcell (c, k)) := bigSep_elim (Finset.mem_univ (c, k))
  unfold records
  iintro ⟨HI, -⟩
  iapply h
  iexact HI
omit [FloatOps F] in
theorem reached_at (K : Dev nD × CK → ℕ) (c : Dev nD) (k : CK) : records m ρ K ⊢ reached ER (cell c k) 0 := by
  have h : (bigSep Finset.univ fun ck : Dev nD × CK => (reached ER (kcell ck) 0 : sProp 𝕄)) ⊢ reached ER (kcell (c, k)) 0 :=
    bigSep_elim (Finset.mem_univ (c, k))
  unfold records
  iintro ⟨-, HR⟩
  iapply h
  iexact HR

end Cert.Exchange

end
-- ==== Proof.Steps.lean ====
/-
One lemma for each kind of operation of the kernel: what it takes from the device's resources and what it leaves. Each is stated
once, for any offset around the ring, and the body's proof applies it at every occurrence.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the kernel needs a variant. -/
abbrev 𝒱₀ : Variants := Variants.none

/-- A wait for a slot takes a block's units; -/
theorem slot_amount (s : Dev nD) (r : Fin 15) : (slot s : Memref sig .tc .vmem S64x64 .f32).view.amount (.dma (recvS r)) = N := slot_credit s
/-- the wait for `w` takes its own. -/
theorem w_amount : (wM : Memref sig .tc .vmem S1024x1024 .f32).view.amount (.dma copyS) = NW := w_credit

/-! ## What each operation takes and leaves -/

/-- What device `c` owes, whatever it has waited on. -/
def owesW (c : Dev nD) (O : CellTallies nD τ sig Unit) : sProp 𝕄 := iprop(∃ W : Waits sig Unit, owes (c : Thread nD τ) O W)

/-- For the signal at offset `r`: the token of its duty, and the slot it hands over. -/
def sigItem (c : Dev nD) (r : Fin 15) : sProp 𝕄 := iprop(dutyTok ER (cell (fore c r) kbar) 0 r ∗ ∃ f, slotPts c (fore c r) f)
/-- What the barrier wait gives for offset `r`: the slot to fill on the device there. -/
def slotItem (c : Dev nD) (r : Fin 15) : sProp 𝕄 := iprop(∃ f, slotPts (F := F) (fore c r) c f)
/-- For the transfer at offset `r`: the row block it reads and the tokens of its two duties. -/
def blkItem (c : Dev nD) (r : Fin 15) : sProp 𝕄 :=
  iprop(xPts m ρ c (fore c r) ∗ dutyTok ER (cell c (ksend r)) 0 0 ∗ dutyTok ER (cell (fore c r) (krecv r)) 0 0)
/-- The credit a transfer leaves for the wait on its send cell. -/
def credItem (c : Dev nD) (r : Fin 15) : sProp 𝕄 := cred (tallyAt (cell c (ksend r)) () N)
/-- For the wait on receive cell `r`: its credit and the position. -/
def recvItem (c : Dev nD) (r : Fin 15) : sProp 𝕄 :=
  iprop(cred (tallyAt (cell c (krecv r)) () N) ∗ atPos ER (cell c (krecv r)) 0 ∅ 0)
/-- What that wait gives: the slot filled, and the cell closed at zero. -/
def recvDone (c : Dev nD) (r : Fin 15) : sProp 𝕄 := iprop(slotPts c (back c r) (gath m ρ c) ∗ semVal (cell c (krecv r)) 0)
/-- For the wait on send cell `r`: the position. -/
def posItem (c : Dev nD) (r : Fin 15) : sProp 𝕄 := atPos ER (cell c (ksend r)) 0 ∅ 0
/-- What that wait gives: the row block back, and the cell closed at zero. -/
def sendDone (c : Dev nD) (r : Fin 15) : sProp 𝕄 := iprop(xPts m ρ c (fore c r) ∗ semVal (cell c (ksend r)) 0)

variable (K : Dev nD × CK → ℕ)

section Steps

variable {α : Type} {Q : α → sProp (MT nD τ sig Unit (Elt F) ℕ UU ℕ)} {k : PUnit → Prog (TpuEff nD τ sig (Elt F) Λ₀ .tc) α}

/-- The signal at offset `r` tells the device there that its slot may be filled. -/
theorem step_signal (c n : Dev nD) (r : Fin 15) (hn : n = fore c r) (l : List (Fin 15)) (O : CellTallies nD τ sig Unit)
    {q : Sem sig} (hq : q = barS) {w : Int} (hw : w = ((1 : ℕ) : Int)) :
    iprop(records m ρ K ∗ owesW c (O + owedSig c (r :: l)) ∗ listSep (sigItem (F := F) c) (r :: l))
      ⊢ iprop(((owesW c (O + owedSig c l) ∗ listSep (sigItem (F := F) c) l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) q w) k) Q) := by
  subst hn hq hw
  rw [listSep_cons]
  unfold owesW sigItem
  iintro ⟨#HR, ⟨%W, HO⟩, ⟨Htok, Hslot⟩, Hl⟩ Hk
  iapply (Rounds.wp_signal 𝒱₀ ER (sched m ρ) (c : Thread nD τ) none (dst := (fore c r : Thread nD τ)) (κ := K (fore c r, kbar))
      (d := r) (by rw [show (((fore c r : Dev nD) : Thread nD τ), SemLoc.reg barS) = cell (fore c r) kbar from rfl, duties_cell]; exact Finset.mem_univ _)
      (amount_cell m ρ (fore c r) kbar r) () (O + owedSig c l) (add_assoc _ _ _).symm) $$ [HO Htok Hslot]
  · isplitr; · iapply (inv_at m ρ K (fore c r) kbar); iexact HR
    isplitl [HO]; · iexact HO
    isplitl [Htok]; · iexact Htok
    isplitl [Hslot]
    · rw [show (((fore c r : Dev nD) : Thread nD τ), SemLoc.reg barS) = cell (fore c r) kbar from rfl, payload_cell]
      unfold pay; rw [back_fore]; iexact Hslot
    · iapply (reached_at m ρ K (fore c r) kbar); iexact HR
  iintro HO
  iapply Hk
  isplitl [HO]
  · iexists W; iexact HO
  iexact Hl

omit [FloatOps F] in
/-- The fifteen payloads of the barrier, in the order the transfers are made. -/
theorem bar_slots (c : Dev nD) : (bigSep Finset.univ fun d => pay (F := F) m ρ c kbar d) = listSep (slotItem (F := F) c) ord := by
  rw [listSep_univ _ ord_nodup ord_all, bigSep_univ_equiv (Fin.revPerm) (slotItem (F := F) c)]
  refine bigSep_congr fun d _ => ?_
  show iprop(∃ f, slotPts (back c d) c f) = iprop(∃ f, slotPts (fore c d.rev) c f)
  rw [back_eq]

/-- The wait on the barrier cell: every other device's slot for this one comes with it. -/
theorem step_bar (c : Dev nD) {q : Sem sig} (hq : q = barS) {w : Int} (hw : w = ((15 : ℕ) : Int)) :
    iprop(records m ρ K ∗ levAts L lv ∗ cred (tallyAt (cell c kbar) () 15) ∗ owesW c (owedSend c ord + owedSig c [])
        ∗ atPos ER (cell c kbar) 0 ∅ 0)
      ⊢ iprop(((owesW c (owedSend c ord) ∗ semVal (cell c kbar) 0 ∗ listSep (slotItem (F := F) c) ord)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q w) k) Q) := by
  subst hq hw
  unfold owesW
  iintro ⟨#HR, #Hlev, HC, ⟨%W, HO⟩, Hat⟩ Hk
  rw [show owedSend c ord + owedSig c [] = owedSend c ord from add_zero _]
  iapply (Rounds.wp_wait_rest_token 𝒱₀ ER (sched m ρ) (c : Thread nD τ) none (κ := K (c, kbar))
      (wpE_semWait_eq 𝒱₀ (c : Thread nD τ) none Set.univ) (Set.mem_univ _) () (O := owedSend c ord) (W := W) (R := 0) (m := 0) (T := ∅)
      (by rw [Nat.zero_add]; exact (expect_bar m ρ c).symm)) $$ [HC HO Hat]
  · isplitr; · iapply (inv_at m ρ K c kbar); iexact HR
    isplitl [HC]; · iexact HC
    isplitl [HO]; · iexact HO
    isplitr; · iapply (mayWait_bar c ord); iexact Hlev
    iexact Hat
  iintro ⟨HO, Hat, -, Hpay⟩
  ihave Hp := (Entails.of_eq ((rest_bar m ρ c).trans (bar_slots m ρ c))) $$ Hpay
  imod (Rounds.cell_close ER (sched m ρ) (Set.mem_univ (K (c, kbar))) (fun h => h) (R := 0 + 1) (duties_later m ρ (cell c kbar))) $$ [Hat] with Hz
  · isplitr; · iapply (inv_at m ρ K c kbar); iexact HR
    iexact Hat
  iapply Hk
  isplitl [HO]
  · iexists _; iexact HO
  isplitl [Hz]; · iexact Hz
  iexact Hp

/-- A wait on a cell of the device's own that has one duty, nothing owed: what the duty hands over, and the cell closed at zero. -/
theorem step_own (c : Dev nD) (j : OK) {w : TpuEff nD τ sig (Elt F) Λ₀ .tc PUnit} {N' : ℕ}
    (hw : ∀ P : PUnit → sProp 𝕄, wpE (defs₀ (F := F)) 𝒱₀ (c : Thread nD τ) none Set.univ w P
      = waitSpec (c : Thread nD τ) Set.univ (csem (.inr j)) N' P) (hN : N' = amt (.inr j)) (O : CellTallies nD τ sig Unit) :
    iprop(records m ρ K ∗ owesW c O ∗ MayWait (c : Thread nD τ) (csem (.inr j)) () O ∗ cred (tallyAt (cell c (.inr j)) () N')
        ∗ atPos ER (cell c (.inr j)) 0 ∅ 0)
      ⊢ iprop(((owesW c O ∗ pay m ρ c (.inr j) 0 ∗ semVal (cell c (.inr j)) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesW
  iintro ⟨#HR, ⟨%W, HO⟩, HM, HC, Hat⟩ Hk
  iapply (Rounds.wp_wait_rest_token 𝒱₀ ER (sched m ρ) (c : Thread nD τ) none (κ := K (c, .inr j))
      hw (Set.mem_univ _) () (O := O) (W := W) (R := 0) (m := 0) (T := ∅)
      (by rw [Nat.zero_add, hN]; exact (expect_own m ρ c j).symm)) $$ [HC HO Hat HM]
  · isplitr; · iapply (inv_at m ρ K c (.inr j)); iexact HR
    isplitl [HC]; · iexact HC
    isplitl [HO]; · iexact HO
    isplitl [HM]; · iexact HM
    iexact Hat
  iintro ⟨HO, Hat, -, Hpay⟩
  ihave Hp := (Entails.of_eq (rest_own m ρ c j)) $$ Hpay
  imod (Rounds.cell_close ER (sched m ρ) (Set.mem_univ (K (c, .inr j))) (fun h => h) (R := 0 + 1) (duties_later m ρ (cell c (.inr j)))) $$ [Hat] with Hz
  · isplitr; · iapply (inv_at m ρ K c (.inr j)); iexact HR
    iexact Hat
  iapply Hk
  isplitl [HO]
  · iexists _; iexact HO
  isplitl [Hp]; · iexact Hp
  iexact Hz

/-- The copy of `w` onto the chip is started. -/
theorem step_copy (c : Dev nD) {q : DmaSem sig} (hq : q = copyS) {hsrc : (hM : Memref sig .tc .hbm S1024x1024 .f32).view.WordExact}
    {hdst : (wM : Memref sig .tc .vmem S1024x1024 .f32).view.WordExact}
    {hsem : DmaTarget.Typed (nD := nD) (τ := τ) (p := .tc) .hbm (.dma q) (.here (wM : Memref sig .tc .vmem S1024x1024 .f32))}
    (f : Buf (Elt F) ((c : Thread nD τ).loc cc0_scratch0)) :
    iprop(records m ρ K ∗ hPts m ρ c ∗ (((c : Thread nD τ).loc cc0_scratch0) ↦{fullShare} f) ∗ dutyTok ER (cell c kcopy) 0 0)
      ⊢ iprop((cred (tallyAt (cell c kcopy) () NW) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma hM (.here wM) (.dma q) hsrc hdst hsem) k) Q) := by
  subst hq
  have hpay : iprop(((wM : Memref sig .tc .vmem S1024x1024 .f32).view.loc (c : Thread nD τ) ↦[(wM : Memref sig .tc .vmem S1024x1024 .f32).view.set]{fullShare}
        ((wM : Memref sig .tc .vmem S1024x1024 .f32).view.write (Elt F) f ((hM : Memref sig .tc .hbm S1024x1024 .f32).view.read (Elt F) (warr m ρ c)) Finset.univ))
      ∗ ((hM : Memref sig .tc .hbm S1024x1024 .f32).view.loc (c : Thread nD τ) ↦[(hM : Memref sig .tc .hbm S1024x1024 .f32).view.set]{fullShare} warr m ρ c))
      ⊢ (sched m ρ).payload (cell c kcopy) 0 0 := by
    rw [payload_cell]
    unfold pay wPts hPts
    simp only [Memref.view_whole, View.set_whole, View.read_whole]
    have hw : View.write (Elt F) (View.whole cc0_scratch0) f (warr m ρ c) Finset.univ = warr m ρ c := View.write_whole_univ cc0_scratch0 f _
    rw [hw]
  unfold hPts
  iintro ⟨#HR, Hh, Hw, Htok⟩ Hk
  iapply (Rounds.wp_copy_pointsTo (Γ := .empty) (src := hM) (dst := wM) (sem := .dma copyS) (hsrc := hsrc) (hdst := hdst) (hsem := hsem) 𝒱₀ ER (sched m ρ) (c : Thread nD τ) none (q := fullShare) (fs := warr m ρ c) (fd := f) (r := 0) (d := 0)
      (κ := K (c, kcopy)) (by rw [show ((c : Thread nD τ), SemLoc.dma copyS) = cell c kcopy from rfl, duties_cell]; exact Finset.mem_singleton_self _)
      () NW w_amount (amount_cell m ρ c kcopy 0) hpay) $$ [Hh Hw Htok]
  · isplitr; · iapply (inv_at m ρ K c kcopy); iexact HR
    isplitl [Hh]; · simp only [Memref.view_whole, View.set_whole]; iexact Hh
    isplitl [Hw]; · simp only [Memref.view_whole, View.set_whole]; iexact Hw
    isplitl [Htok]; · iexact Htok
    iapply (reached_at m ρ K c kcopy); iexact HR
  iexact Hk

/-- The transfer at offset `r`: this device's row block for the device there goes into its slot on that device. -/
theorem step_send (c n : Dev nD) (r : Fin 15) (hn : n = fore c r) (l done : List (Fin 15))
    {src dst : Memref sig .tc .vmem S64x64 .f32} (hs : src = xBlk (fore c r)) (hd : dst = slot c)
    {q₁ q₂ : DmaSem sig} (hq₁ : q₁ = sendS r) (hq₂ : q₂ = recvS r)
    {hsc : dst.view.ref.isScScratch = false} {hsrc : src.view.WordExact} {hdst : dst.view.WordExact}
    {hsem : DmaTarget.Typed .vmem (.dma q₂) (.remote (Dev.tc n : Thread nD τ) dst (.dma q₁) hsc)} :
    iprop(records m ρ K ∗ owesW c (owedSend c (r :: l)) ∗ listSep (slotItem (F := F) c) (r :: l) ∗ listSep (blkItem m ρ c) (r :: l)
        ∗ listSep (credItem (F := F) c) done)
      ⊢ iprop(((owesW c (owedSend c l) ∗ listSep (slotItem (F := F) c) l ∗ listSep (blkItem m ρ c) l ∗ listSep (credItem (F := F) c) (r :: done))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) k) Q) := by
  subst hn hs hd hq₁ hq₂
  simp only [listSep_cons]
  unfold owesW slotItem blkItem credItem
  iintro ⟨#HR, ⟨%W, HO⟩, ⟨⟨%fd, Hslot⟩, Hls⟩, ⟨⟨Hx, Ht1, Ht2⟩, Hlb⟩, Hdone⟩ Hk
  have hpay₁ : ((xBlk (fore c r)).view.loc (c : Thread nD τ) ↦[(xBlk (fore c r)).view.set]{fullShare} xstg m ρ c)
      ⊢ (sched m ρ).payload (cell c (ksend r)) 0 0 := by
    rw [payload_cell, xBlk_set]; exact BI.Entails.refl _
  have hpay₂ : ((slot c).view.loc (fore c r : Thread nD τ) ↦[(slot c).view.set]{fullShare}
        ((slot c).view.write (Elt F) fd ((xBlk (fore c r)).view.read (Elt F) (xstg m ρ c)) Finset.univ))
      ⊢ (sched m ρ).payload (cell (fore c r) (krecv r)) 0 0 := by
    rw [payload_cell]
    show _ ⊢ slotPts (fore c r) (back (fore c r) r) (gath m ρ (fore c r))
    rw [back_fore]
    unfold slotPts
    rw [← slot_set]
    exact Entails.of_eq (pointsTo_congr (landed_eq m ρ (fore c r) c fd))
  iapply (Rounds.wp_send_pointsTo (c' := (fore c r : Thread nD τ)) (src := xBlk (fore c r)) (dst := slot c) (sS := .dma (sendS r)) (sem := .dma (recvS r))
    (hsc := hsc) (hsrc := hsrc) (hdst := hdst) (hsem := hsem) (fs := xstg m ρ c) 𝒱₀ ER (sched m ρ) (c : Thread nD τ) none (κ₁ := K (c, ksend r)) (κ₂ := K (fore c r, krecv r))
    (r₁ := 0) (r₂ := 0) (d₁ := 0) (d₂ := 0) (fd := fd)
    (by rw [show ((c : Thread nD τ), SemLoc.dma (sendS r)) = cell c (ksend r) from rfl, duties_cell]; exact Finset.mem_singleton_self _)
    (by rw [show ((fore c r : Thread nD τ), SemLoc.dma (recvS r)) = cell (fore c r) (krecv r) from rfl, duties_cell]; exact Finset.mem_singleton_self _)
    () () N (slot_amount c r) (amount_cell m ρ c (ksend r) 0) (amount_cell m ρ (fore c r) (krecv r) 0) (owedSend c l) rfl (W := W) hpay₁ hpay₂)
    $$ [Hx Hslot HO Ht1 Ht2]
  · isplitr; · iapply (inv_at m ρ K c (ksend r)); iexact HR
    isplitr; · iapply (inv_at m ρ K (fore c r) (krecv r)); iexact HR
    isplitl [Hx]; · unfold xPts; rw [xBlk_set]; iexact Hx
    isplitl [Hslot]; · unfold slotPts; rw [slot_set]; iexact Hslot
    isplitl [HO]; · iexact HO
    isplitl [Ht1]; · iexact Ht1
    isplitr; · iapply (reached_at m ρ K c (ksend r)); iexact HR
    isplitl [Ht2]; · iexact Ht2
    iapply (reached_at m ρ K (fore c r) (krecv r)); iexact HR
  iintro ⟨HC, HO⟩
  iapply Hk
  isplitl [HO]; · iexists W; iexact HO
  isplitl [Hls]; · iexact Hls
  isplitl [Hlb]; · iexact Hlb
  isplitl [HC]; · iexact HC
  iexact Hdone

/-- The wait for the copy of `w`. -/
theorem step_wait_copy (c : Dev nD) {q : DmaSem sig} (hq : q = copyS) {src : Memref sig .tc .hbm S1024x1024 .f32}
    {hsrc : src.view.WordExact} {hdst : (wM : Memref sig .tc .vmem S1024x1024 .f32).view.WordExact} :
    iprop(records m ρ K ∗ owesW c 0 ∗ cred (tallyAt (cell c kcopy) () NW) ∗ atPos ER (cell c kcopy) 0 ∅ 0)
      ⊢ iprop(((owesW c 0 ∗ wPts m ρ c ∗ hPts m ρ c ∗ semVal (cell c kcopy) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src wM hsrc hdst) k) Q) := by
  subst hq
  iintro ⟨#HR, HO, HC, Hat⟩ Hk
  iapply (step_own m ρ K c (.inl ()) (N' := NW) (fun P => by rw [← w_credit]; exact wpE_waitDma2_eq 𝒱₀ (c : Thread nD τ) none Set.univ P) rfl 0)
    $$ [HO HC Hat]
  · isplitr; · iexact HR
    isplitl [HO]; · iexact HO
    isplitr; · rw [MayWait_zero]; iempintro
    isplitl [HC]; · iexact HC
    iexact Hat
  unfold pay
  iintro ⟨HO, ⟨Hw, Hh⟩, Hz⟩
  iapply Hk
  isplitl [HO]; · iexact HO
  isplitl [Hw]; · iexact Hw
  isplitl [Hh]; · iexact Hh
  iexact Hz

/-- The wait on receive cell `r`: the slot of the device `r + 1` places back is filled. -/
theorem step_wait_recv (c : Dev nD) (r : Fin 15) (l done : List (Fin 15)) {q : DmaSem sig} (hq : q = recvS r)
    {src dst : Memref sig .tc .vmem S64x64 .f32} (s : Dev nD) (hd : dst = slot s) {hsrc : src.view.WordExact} {hdst : dst.view.WordExact} :
    iprop(records m ρ K ∗ owesW c 0 ∗ listSep (recvItem (F := F) c) (r :: l) ∗ listSep (recvDone m ρ c) done)
      ⊢ iprop(((owesW c 0 ∗ listSep (recvItem (F := F) c) l ∗ listSep (recvDone m ρ c) (r :: done))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hd
  simp only [listSep_cons]
  unfold recvItem
  iintro ⟨#HR, HO, ⟨⟨HC, Hat⟩, Hl⟩, Hdone⟩ Hk
  iapply (step_own m ρ K c (.inr (.inr r)) (N' := N) (fun P => by rw [← slot_credit s]; exact wpE_waitDma2_eq 𝒱₀ (c : Thread nD τ) none Set.univ P) rfl 0)
    $$ [HO HC Hat]
  · isplitr; · iexact HR
    isplitl [HO]; · iexact HO
    isplitr; · rw [MayWait_zero]; iempintro
    isplitl [HC]; · iexact HC
    iexact Hat
  unfold pay recvDone
  iintro ⟨HO, Hs, Hz⟩
  iapply Hk
  isplitl [HO]; · iexact HO
  isplitl [Hl]; · iexact Hl
  isplitr [Hdone]
  · isplitl [Hs]; · iexact Hs
    iexact Hz
  iexact Hdone

/-- The wait on send cell `r`: the row block sent is the device's again. -/
theorem step_wait_send (c : Dev nD) (r : Fin 15) (l done : List (Fin 15)) {q : DmaSem sig} (hq : q = sendS r)
    {src dst : Memref sig .tc .vmem S64x64 .f32} (t : Dev nD) (hd : dst = xBlk t) {hsrc : src.view.WordExact} {hdst : dst.view.WordExact} :
    iprop(records m ρ K ∗ owesW c 0 ∗ listSep (credItem (F := F) c) (r :: l) ∗ listSep (posItem (F := F) c) (r :: l) ∗ listSep (sendDone m ρ c) done)
      ⊢ iprop(((owesW c 0 ∗ listSep (credItem (F := F) c) l ∗ listSep (posItem (F := F) c) l ∗ listSep (sendDone m ρ c) (r :: done))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hd
  simp only [listSep_cons]
  unfold credItem posItem
  iintro ⟨#HR, HO, ⟨HC, Hl⟩, ⟨Hat, Hlp⟩, Hdone⟩ Hk
  iapply (step_own m ρ K c (.inr (.inl r)) (N' := N) (fun P => by rw [← xBlk_credit t]; exact wpE_waitDma2_eq 𝒱₀ (c : Thread nD τ) none Set.univ P) rfl 0)
    $$ [HO HC Hat]
  · isplitr; · iexact HR
    isplitl [HO]; · iexact HO
    isplitr; · rw [MayWait_zero]; iempintro
    isplitl [HC]; · iexact HC
    iexact Hat
  unfold pay sendDone
  iintro ⟨HO, Hx, Hz⟩
  iapply Hk
  isplitl [HO]; · iexact HO
  isplitl [Hl]; · iexact Hl
  isplitl [Hlp]; · iexact Hlp
  isplitr [Hdone]
  · isplitl [Hx]; · iexact Hx
    iexact Hz
  iexact Hdone

end Steps

section Loads

variable {α : Type} {Q : α → sProp (MT nD τ sig Unit (Elt F) ℕ UU ℕ)}

/-- Loading slot `s` touches exactly the slot; -/
theorem g_setOn (s : Dev nD) : (gM : Memref sig .tc .vmem S16x64x64 .f32).view.setOn (gR s).toLoadRect.set = gSet s :=
  (View.set_slice _ _).symm.trans (View.set_slice_whole cc0_scratch1 (gR s))
/-- loading row block `t` exactly the block. -/
theorem x_setOn (t : Dev nD) : (xM : Memref sig .tc .vmem S1024x64 .f32).view.setOn (xR t).toLoadRect.set = xSet t :=
  (View.set_slice _ _).symm.trans (View.set_slice_whole cc0_stg0_0 (xR t))

/-- Reading a filled slot. -/
theorem step_load_slot (c s : Dev nD) {off : Fin 3 → ℕ} (e : off = slotOff s) {h : ∀ a, off a + S1x64x64.size a ≤ S16x64x64.size a}
    {hl : (gM : Memref sig .tc .vmem S16x64x64 .f32).view.LoadsAt (Rect.unit (s := S16x64x64) off S1x64x64.size h).toLoadRect}
    {k : Vec F S1x64x64 .f32 → Prog (TpuEff nD τ sig (Elt F) Λ₀ .tc) α} :
    slotPts c s (gath m ρ c)
      ⊢ iprop((slotPts c s (gath m ρ c) -∗ wp frame (wpE (defs₀ (F := F)) 𝒱₀ (c : Thread nD τ) none) Set.univ (k (slotVal m ρ c s)) Q)
          -∗ wp frame (wpE (defs₀ (F := F)) 𝒱₀ (c : Thread nD τ) none) Set.univ
              (.op (.load gM (Rect.unit (s := S16x64x64) off S1x64x64.size h).toLoadRect hl) k) Q) := by
  subst e
  unfold slotPts slotVal
  exact wp_load 𝒱₀ (c : Thread nD τ) none Set.univ (m := gM) (subset_of_eq (g_setOn s))

/-- Reading a row block of `w`, once it is on the chip. -/
theorem step_load_w (c s : Dev nD) {off : Fin 2 → ℕ} (e : off = rowOff s) {h : ∀ a, off a + S64x1024.size a ≤ S1024x1024.size a}
    {hl : (wM : Memref sig .tc .vmem S1024x1024 .f32).view.LoadsAt (Rect.unit (s := S1024x1024) off S64x1024.size h).toLoadRect}
    {k : Vec F S64x1024 .f32 → Prog (TpuEff nD τ sig (Elt F) Λ₀ .tc) α} :
    wPts m ρ c
      ⊢ iprop((wPts m ρ c -∗ wp frame (wpE (defs₀ (F := F)) 𝒱₀ (c : Thread nD τ) none) Set.univ (k (wVal m ρ c s)) Q)
          -∗ wp frame (wpE (defs₀ (F := F)) 𝒱₀ (c : Thread nD τ) none) Set.univ
              (.op (.load wM (Rect.unit (s := S1024x1024) off S64x1024.size h).toLoadRect hl) k) Q) := by
  subst e
  unfold wPts wVal
  exact wp_load 𝒱₀ (c : Thread nD τ) none Set.univ (m := wM) (Finset.subset_univ _)

/-- Reading the device's own row block of `x`. -/
theorem step_load_x (c t : Dev nD) {off : Fin 2 → ℕ} (e : off = rowOff t) {h : ∀ a, off a + S64x64.size a ≤ S1024x64.size a}
    {hl : (xM : Memref sig .tc .vmem S1024x64 .f32).view.LoadsAt (Rect.unit (s := S1024x64) off S64x64.size h).toLoadRect}
    {k : Vec F S64x64 .f32 → Prog (TpuEff nD τ sig (Elt F) Λ₀ .tc) α} :
    xPts m ρ c t
      ⊢ iprop((xPts m ρ c t -∗ wp frame (wpE (defs₀ (F := F)) 𝒱₀ (c : Thread nD τ) none) Set.univ
            (k ((xM : Memref sig .tc .vmem S1024x64 .f32).view.readAt (Elt F) (xR t).toLoadRect (xstg m ρ c))) Q)
          -∗ wp frame (wpE (defs₀ (F := F)) 𝒱₀ (c : Thread nD τ) none) Set.univ
              (.op (.load xM (Rect.unit (s := S1024x64) off S64x64.size h).toLoadRect hl) k) Q) := by
  subst e
  unfold xPts
  exact wp_load 𝒱₀ (c : Thread nD τ) none Set.univ (m := xM) (subset_of_eq (x_setOn t))

/-- Reading the device's own slot before it is written: nothing is said of what is read. -/
theorem step_load_old (c s : Dev nD) {off : Fin 3 → ℕ} (e : off = slotOff s) {h : ∀ a, off a + S1x64x64.size a ≤ S16x64x64.size a}
    {hl : (gM : Memref sig .tc .vmem S16x64x64 .f32).view.LoadsAt (Rect.unit (s := S16x64x64) off S1x64x64.size h).toLoadRect}
    {k : Vec F S1x64x64 .f32 → Prog (TpuEff nD τ sig (Elt F) Λ₀ .tc) α} (f : (cc0_scratch1 : Ref sig .tc).ty.Contents (Elt F)) :
    slotPts c s f
      ⊢ iprop((∀ v, slotPts c s f -∗ wp frame (wpE (defs₀ (F := F)) 𝒱₀ (c : Thread nD τ) none) Set.univ (k v) Q)
          -∗ wp frame (wpE (defs₀ (F := F)) 𝒱₀ (c : Thread nD τ) none) Set.univ
              (.op (.load gM (Rect.unit (s := S16x64x64) off S1x64x64.size h).toLoadRect hl) k) Q) := by
  subst e
  unfold slotPts
  iintro H Hk
  iapply (wp_load 𝒱₀ (c : Thread nD τ) none Set.univ (m := gM) (S := gSet s) (subset_of_eq (g_setOn s))) $$ H
  iintro H
  iapply Hk
  iexact H

/-- Writing the device's own block into its own slot. -/
theorem step_store_own (c : Dev nD) {off : Fin 3 → ℕ} (e : off = slotOff c) {h : ∀ a, off a + S1x64x64.size a ≤ S16x64x64.size a}
    {hx : ((gM : Memref sig .tc .vmem S16x64x64 .f32).access (Rect.unit (s := S16x64x64) off S1x64x64.size h)).Stores Finset.univ}
    {hm : Finset.univ = Finset.univ ∨ ∀ a, (Rect.unit (s := S16x64x64) off S1x64x64.size h).stride a = 1}
    {k : PUnit → Prog (TpuEff nD τ sig (Elt F) Λ₀ .tc) α} (f : (cc0_scratch1 : Ref sig .tc).ty.Contents (Elt F)) :
    slotPts c c f
      ⊢ iprop((slotPts c c (gath m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store gM (Rect.unit (s := S16x64x64) off S1x64x64.size h) (k0_pay1 (xown m ρ c)) Finset.univ hx hm) k) Q) := by
  subst e
  unfold slotPts
  have he : ((c : Thread nD τ).loc cc0_scratch1 ↦[gSet c]{fullShare} (((gM : Memref sig .tc .vmem S16x64x64 .f32).access (gR c) : View sig .tc _ _ _).write (Elt F) f
      (k0_pay1 (xown m ρ c)) Finset.univ) : sProp 𝕄) = ((c : Thread nD τ).loc cc0_scratch1 ↦[gSet c]{fullShare} gath m ρ c) :=
    pointsTo_congr (kept_eq m ρ c f)
  rw [← he]
  exact wp_store (Γ := .empty) (Q := Q) (k := k) 𝒱₀ (c : Thread nD τ) none (defs := defs₀ (F := F)) Set.univ (m := gM) (r := gR c)
    (w := k0_pay1 (xown m ρ c)) (Mk := Finset.univ) (hx := hx) (hm := hm) (S := gSet c) (f := f)
    (subset_of_eq (View.set_slice_whole cc0_scratch1 (gR c)))

end Loads

end Cert.Exchange

end
-- ==== Proof.Body.lean ====
/-
The body of the kernel, run from what one device holds: one lemma of `Steps` per operation, in program order.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

omit [FloatOps F] in
/-- A lasting fact that a step uses is there after it. -/
theorem keep {R A B W W' : sProp 𝕄} [Persistent R] (h : iprop(R ∗ A) ⊢ iprop((B -∗ W) -∗ W')) : iprop(R ∗ A) ⊢ iprop(((R ∗ B) -∗ W) -∗ W') := by
  iintro ⟨#HR, HA⟩ Hk
  iapply h $$ [HA]
  · isplitr; · iexact HR
    iexact HA
  iintro HB
  iapply Hk
  isplitr; · iexact HR
  iexact HB

/-- A device named by its number is the one at offset `r` ahead. -/
theorem fore_of (c n : Dev nD) (r : Fin 15) (h : n.val = (c.val + (r.val + 1)) % 16) : n = fore c r := Fin.ext h

/-- Reading the slot that the last wait filled. -/
theorem step_load_recv {α : Type} {Q : α → sProp (MT nD τ sig Unit (Elt F) ℕ UU ℕ)} (c : Dev nD) (r : Fin 15) (l done : List (Fin 15))
    {off : Fin 3 → ℕ} (e : off = slotOff (back c r)) {h : ∀ a, off a + S1x64x64.size a ≤ S16x64x64.size a}
    {hl : (gM : Memref sig .tc .vmem S16x64x64 .f32).view.LoadsAt (Rect.unit (s := S16x64x64) off S1x64x64.size h).toLoadRect}
    {k : Vec F S1x64x64 .f32 → Prog (TpuEff nD τ sig (Elt F) Λ₀ .tc) α} :
    iprop(records m ρ K ∗ owesW (F := F) c 0 ∗ listSep (recvItem (F := F) c) l ∗ listSep (recvDone m ρ c) (r :: done))
      ⊢ iprop(((records m ρ K ∗ owesW (F := F) c 0 ∗ listSep (recvItem (F := F) c) l ∗ listSep (recvDone m ρ c) (r :: done))
            -∗ wp frame (wpE (defs₀ (F := F)) 𝒱₀ (c : Thread nD τ) none) Set.univ (k (slotVal m ρ c (back c r))) Q)
          -∗ wp frame (wpE (defs₀ (F := F)) 𝒱₀ (c : Thread nD τ) none) Set.univ
              (.op (.load gM (Rect.unit (s := S16x64x64) off S1x64x64.size h).toLoadRect hl) k) Q) := by
  rw [listSep_cons]
  unfold recvDone
  iintro ⟨HR, HO, Hr, ⟨Hs, Hv⟩, Hl⟩ Hk
  iapply (step_load_slot m ρ c (back c r) e) $$ Hs
  iintro Hs
  iapply Hk
  isplitl [HR]; · iexact HR
  isplitl [HO]; · iexact HO
  isplitl [Hr]; · iexact Hr
  isplitl [Hs Hv]
  · isplitl [Hs]; · iexact Hs
    iexact Hv
  iexact Hl

/-- What device `c`'s body runs on. -/
def runPre (c : Dev nD) (fw : Buf (Elt F) ((c : Thread nD τ).loc cc0_scratch0)) (fg : (cc0_scratch1 : Ref sig .tc).ty.Contents (Elt F))
    (fo : Buf (Elt F) ((c : Thread nD τ).loc cc0_stg1_0)) : sProp 𝕄 :=
  iprop(records m ρ K ∗ levAts L lv ∗ owesW c (O₀ c)
    ∗ (cred (tallyAt (cell c kbar) () 15) ∗ atPos ER (cell c kbar) 0 ∅ 0 ∗ listSep (sigItem (F := F) c) fwd)
    ∗ (hPts m ρ c ∗ (((c : Thread nD τ).loc cc0_scratch0) ↦{fullShare} fw) ∗ dutyTok ER (cell c kcopy) 0 0 ∗ atPos ER (cell c kcopy) 0 ∅ 0)
    ∗ (listSep (blkItem m ρ c) ord ∗ xPts m ρ c c ∗ slotPts c c fg)
    ∗ (listSep (recvItem (F := F) c) ord ∗ listSep (posItem (F := F) c) ord)
    ∗ (((c : Thread nD τ).loc cc0_stg1_0) ↦{fullShare} fo))

/-- The order of collecting, backward. -/
abbrev ordR : List (Fin 15) := [7, 8, 6, 9, 5, 10, 4, 11, 3, 12, 2, 13, 1, 14, 0]

/-- What it leaves. -/
def runPost (c : Dev nD) : sProp 𝕄 :=
  iprop(owesW (F := F) c 0 ∗ semVal (cell c kbar) 0 ∗ (wPts m ρ c ∗ hPts m ρ c ∗ semVal (cell c kcopy) 0)
    ∗ (slotPts c c (gath m ρ c) ∗ listSep (recvDone m ρ c) ordR)
    ∗ (xPts m ρ c c ∗ listSep (sendDone m ρ c) ordR)
    ∗ (((c : Thread nD τ).loc cc0_stg1_0) ↦{fullShare} outAt m ρ c))

omit [FloatOps F] in
theorem hz : (![0, 0] : Fin 2 → Nat) = fun _ => 0 := funext fun a => by fin_cases a <;> rfl

/-- The value the kernel stores, as its statements nest it, is the running sum over all the blocks. -/
theorem total_eq (c : Dev nD) :
    let s := fun r => slotVal m ρ c (back c r)
    let w := fun r => wVal m ρ c (back c r)
    k0_pay14 (k0_pay12 (k0_pay11 (k0_pay10 (k0_pay8 (k0_pay7 (k0_pay6 (k0_pay5
      (k0_pay3 (k0_pay2 (slotVal m ρ c c) (wVal m ρ c c)) (s 0) (w 0)) (k0_pay4 (s 14)) (w 14) (constant S64x1024 .f32 0#32) (s 1) (w 1))
      (s 13) (w 13) (s 2) (w 2)) (s 12) (w 12) (s 3) (w 3)) (s 11) (w 11)) (k0_pay9 (s 4)) (w 4) (s 10) (w 10)) (s 5) (w 5) (s 9) (w 9))
      (s 6) (w 6)) (k0_pay13 (s 8)) (w 8) (constant S64x1024 .f32 0#32) (s 7) (w 7) = outAt m ρ c := rfl

omit m ρ in
/-- Writing the whole result. -/
theorem step_store_out {α : Type} {Q : α → sProp (MT nD τ sig Unit (Elt F) ℕ UU ℕ)} (c : Dev nD) (f : Buf (Elt F) ((c : Thread nD τ).loc cc0_stg1_0)) {w : FVec F S64x1024 .f32}
    {h : ∀ a, (![0, 0] : Fin 2 → ℕ) a + S64x1024.size a ≤ S64x1024.size a}
    {hx : ((oM : Memref sig .tc .vmem S64x1024 .f32).access (Rect.unit (s := S64x1024) ![0, 0] S64x1024.size h)).Stores Finset.univ}
    {hm : Finset.univ = Finset.univ ∨ ∀ a, (Rect.unit (s := S64x1024) ![0, 0] S64x1024.size h).stride a = 1}
    {k : PUnit → Prog (TpuEff nD τ sig (Elt F) Λ₀ .tc) α} :
    (((c : Thread nD τ).loc cc0_stg1_0) ↦{fullShare} f)
      ⊢ iprop(((((c : Thread nD τ).loc cc0_stg1_0) ↦{fullShare} (w : (cc0_stg1_0 : Ref sig .tc).ty.Contents (Elt F)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S64x1024) ![0, 0] S64x1024.size h) w Finset.univ hx hm) k) Q) := by
  have he : ((oM : Memref sig .tc .vmem S64x1024 .f32).access (Rect.unit (s := S64x1024) ![0, 0] S64x1024.size h) : View sig .tc _ _ _).write (Elt F) f w Finset.univ = w :=
    Memref.write_access_unit_zero_univ (Elt F) cc0_stg1_0 hz _ f w
  have hs := wp_store (Γ := .empty) (Q := Q) (k := k) 𝒱₀ (c : Thread nD τ) none (defs := defs₀ (F := F)) Set.univ (m := oM)
    (r := Rect.unit (s := S64x1024) ![0, 0] S64x1024.size h) (w := w) (Mk := Finset.univ) (hx := hx) (hm := hm) (S := Finset.univ) (f := f)
    (Finset.subset_univ _)
  rw [he] at hs
  exact hs

set_option maxHeartbeats 2000000 in
/-- The body, operation by operation. -/
theorem run_body (c : Dev nD) (fw : Buf (Elt F) ((c : Thread nD τ).loc cc0_scratch0)) (fg : (cc0_scratch1 : Ref sig .tc).ty.Contents (Elt F))
    (fo : Buf (Elt F) ((c : Thread nD τ).loc cc0_stg1_0)) (Q : PUnit → sProp (MT nD τ sig Unit (Elt F) ℕ UU ℕ)) :
    iprop(runPre m ρ K c fw fg fo ∗ (runPost m ρ c -∗ Q ⟨⟩))
      ⊢ wp frame (wpE (defs₀ (F := F)) 𝒱₀ (c : Thread nD τ) none) Set.univ
          (cc0_body xM (Memref.isWhole_whole _) hM (Memref.isWhole_whole _) oM (Memref.isWhole_whole _)
            wM (Memref.isWhole_whole _) gM (Memref.isWhole_whole _) cc0_scratch2 cc0_scratch3 cc0_scratch4) Q := by
  simp only [cc0_body_eq_skeleton]; unfold cc0_body_skel
  simp only [k0_part21_eq_skeleton]; unfold k0_part21_skel
  simp only [Prog.lift, Prog.bind_op, Prog.bind_ret, Prog.pure_eq_ret, Prog.bind_assoc]
  unfold runPre
  iintro ⟨⟨#HR, #Hlev, HO, ⟨Hcb, Hab, Hsig⟩, ⟨Hh, Hw, Htc, Hac⟩, ⟨Hblk, Hx, Hg⟩, ⟨Hrecv, Hpos⟩, Hout⟩, Hend⟩
  -- part 1
  simp only [k0_part1_eq_skeleton]; unfold k0_part1_skel
  simp only [semSignalWord, semWaitWord, Prog.lift, Prog.bind_op, Prog.bind_ret, Prog.pure_eq_ret, wp_deviceId]
  iapply (step_copy m ρ K c rfl fw) $$ [Hh Hw Htc]
  · isplitr; · iexact HR
    isplitl [Hh]; · iexact Hh
    isplitl [Hw]; · iexact Hw
    iexact Htc
  iintro Hcc
  unfold O₀
  ihave H : iprop(records m ρ K ∗ owesW c (owedSend c ord + owedSig c fwd) ∗ listSep (sigItem (F := F) c) fwd) $$ [HO Hsig]
  · isplitr; · iexact HR
    isplitl [HO]; · iexact HO
    iexact Hsig
  iapply (keep (step_signal m ρ K c ⟨k0_dev1 c, k0_dev1_lt c⟩ 0 (fore_of c ⟨k0_dev1 c, k0_dev1_lt c⟩ 0 (k0_dev1_eq c)) [1, 2, 3, 4, 5, 6, 7, 8, 9, 10, 11, 12, 13, 14] (owedSend c ord) rfl rfl)) $$ H
  iintro H
  iapply (keep (step_signal m ρ K c ⟨k0_dev2 c, k0_dev2_lt c⟩ 1 (fore_of c ⟨k0_dev2 c, k0_dev2_lt c⟩ 1 (k0_dev2_eq c)) [2, 3, 4, 5, 6, 7, 8, 9, 10, 11, 12, 13, 14] (owedSend c ord) rfl rfl)) $$ H
  iintro H
  iapply (keep (step_signal m ρ K c ⟨k0_dev3 c, k0_dev3_lt c⟩ 2 (fore_of c ⟨k0_dev3 c, k0_dev3_lt c⟩ 2 (k0_dev3_eq c)) [3, 4, 5, 6, 7, 8, 9, 10, 11, 12, 13, 14] (owedSend c ord) rfl rfl)) $$ H
  iintro H
  iapply (keep (step_signal m ρ K c ⟨k0_dev4 c, k0_dev4_lt c⟩ 3 (fore_of c ⟨k0_dev4 c, k0_dev4_lt c⟩ 3 (k0_dev4_eq c)) [4, 5, 6, 7, 8, 9, 10, 11, 12, 13, 14] (owedSend c ord) rfl rfl)) $$ H
  iintro H
  iapply (keep (step_signal m ρ K c ⟨k0_dev5 c, k0_dev5_lt c⟩ 4 (fore_of c ⟨k0_dev5 c, k0_dev5_lt c⟩ 4 (k0_dev5_eq c)) [5, 6, 7, 8, 9, 10, 11, 12, 13, 14] (owedSend c ord) rfl rfl)) $$ H
  iintro H
  -- part 2
  simp only [k0_part2_eq_skeleton]; unfold k0_part2_skel
  simp only [semSignalWord, semWaitWord, Prog.lift, Prog.bind_op, Prog.bind_ret, Prog.pure_eq_ret, wp_deviceId]
  iapply (keep (step_signal m ρ K c ⟨k0_dev6 c, k0_dev6_lt c⟩ 5 (fore_of c ⟨k0_dev6 c, k0_dev6_lt c⟩ 5 (k0_dev6_eq c)) [6, 7, 8, 9, 10, 11, 12, 13, 14] (owedSend c ord) rfl rfl)) $$ H
  iintro H
  iapply (keep (step_signal m ρ K c ⟨k0_dev7 c, k0_dev7_lt c⟩ 6 (fore_of c ⟨k0_dev7 c, k0_dev7_lt c⟩ 6 (k0_dev7_eq c)) [7, 8, 9, 10, 11, 12, 13, 14] (owedSend c ord) rfl rfl)) $$ H
  iintro H
  iapply (keep (step_signal m ρ K c ⟨k0_dev8 c, k0_dev8_lt c⟩ 7 (fore_of c ⟨k0_dev8 c, k0_dev8_lt c⟩ 7 (k0_dev8_eq c)) [8, 9, 10, 11, 12, 13, 14] (owedSend c ord) rfl rfl)) $$ H
  iintro H
  iapply (keep (step_signal m ρ K c ⟨k0_dev9 c, k0_dev9_lt c⟩ 8 (fore_of c ⟨k0_dev9 c, k0_dev9_lt c⟩ 8 (k0_dev9_eq c)) [9, 10, 11, 12, 13, 14] (owedSend c ord) rfl rfl)) $$ H
  iintro H
  iapply (keep (step_signal m ρ K c ⟨k0_dev10 c, k0_dev10_lt c⟩ 9 (fore_of c ⟨k0_dev10 c, k0_dev10_lt c⟩ 9 (k0_dev10_eq c)) [10, 11, 12, 13, 14] (owedSend c ord) rfl rfl)) $$ H
  iintro H
  iapply (keep (step_signal m ρ K c ⟨k0_dev11 c, k0_dev11_lt c⟩ 10 (fore_of c ⟨k0_dev11 c, k0_dev11_lt c⟩ 10 (k0_dev11_eq c)) [11, 12, 13, 14] (owedSend c ord) rfl rfl)) $$ H
  iintro H
  -- part 3
  simp only [k0_part3_eq_skeleton]; unfold k0_part3_skel
  simp only [semSignalWord, semWaitWord, Prog.lift, Prog.bind_op, Prog.bind_ret, Prog.pure_eq_ret, wp_deviceId]
  iapply (keep (step_signal m ρ K c ⟨k0_dev12 c, k0_dev12_lt c⟩ 11 (fore_of c ⟨k0_dev12 c, k0_dev12_lt c⟩ 11 (k0_dev12_eq c)) [12, 13, 14] (owedSend c ord) rfl rfl)) $$ H
  iintro H
  iapply (keep (step_signal m ρ K c ⟨k0_dev13 c, k0_dev13_lt c⟩ 12 (fore_of c ⟨k0_dev13 c, k0_dev13_lt c⟩ 12 (k0_dev13_eq c)) [13, 14] (owedSend c ord) rfl rfl)) $$ H
  iintro H
  iapply (keep (step_signal m ρ K c ⟨k0_dev14 c, k0_dev14_lt c⟩ 13 (fore_of c ⟨k0_dev14 c, k0_dev14_lt c⟩ 13 (k0_dev14_eq c)) [14] (owedSend c ord) rfl rfl)) $$ H
  iintro H
  iapply (keep (step_signal m ρ K c ⟨k0_dev15 c, k0_dev15_lt c⟩ 14 (fore_of c ⟨k0_dev15 c, k0_dev15_lt c⟩ 14 (k0_dev15_eq c)) [] (owedSend c ord) rfl rfl)) $$ H
  iintro H
  icases H with ⟨-, HO, -⟩
  iapply (step_bar m ρ K c rfl rfl) $$ [HO Hcb Hab]
  · isplitr; · iexact HR
    isplitr; · iexact Hlev
    isplitl [Hcb]; · iexact Hcb
    isplitl [HO]; · iexact HO
    iexact Hab
  iintro ⟨HO, Hzb, Hslot⟩
  ihave Hcr : listSep (credItem (F := F) c) [] $$ []
  · unfold listSep; iempintro
  ihave H : iprop(records m ρ K ∗ owesW c (owedSend c ord) ∗ listSep (slotItem (F := F) c) ord ∗ listSep (blkItem m ρ c) ord ∗ listSep (credItem (F := F) c) []) $$ [HO Hslot Hblk Hcr]
  · isplitr; · iexact HR
    isplitl [HO]; · iexact HO
    isplitl [Hslot]; · iexact Hslot
    isplitl [Hblk]; · iexact Hblk
    iexact Hcr
  -- part 4
  simp only [k0_part4_eq_skeleton]; unfold k0_part4_skel
  simp only [semSignalWord, semWaitWord, Prog.lift, Prog.bind_op, Prog.bind_ret, Prog.pure_eq_ret, wp_deviceId]
  iapply (keep (step_send m ρ K c ⟨k0_dev16 c, k0_dev16_lt c⟩ 0 (fore_of c ⟨k0_dev16 c, k0_dev16_lt c⟩ 0 (k0_dev16_eq c)) [14, 1, 13, 2, 12, 3, 11, 4, 10, 5, 9, 6, 8, 7] []
      (xBlk_of_off (k0_off2_eq c 0) _) (slot_of_off (k0_off1_eq c) _) rfl rfl)) $$ H
  iintro H
  iapply (keep (step_send m ρ K c ⟨k0_dev17 c, k0_dev17_lt c⟩ 14 (fore_of c ⟨k0_dev17 c, k0_dev17_lt c⟩ 14 (k0_dev17_eq c)) [1, 13, 2, 12, 3, 11, 4, 10, 5, 9, 6, 8, 7] [0]
      (xBlk_of_off (k0_off2_eq c 14) _) (slot_of_off (k0_off1_eq c) _) rfl rfl)) $$ H
  iintro H
  iapply (keep (step_send m ρ K c ⟨k0_dev18 c, k0_dev18_lt c⟩ 1 (fore_of c ⟨k0_dev18 c, k0_dev18_lt c⟩ 1 (k0_dev18_eq c)) [13, 2, 12, 3, 11, 4, 10, 5, 9, 6, 8, 7] [14, 0]
      (xBlk_of_off (k0_off2_eq c 1) _) (slot_of_off (k0_off1_eq c) _) rfl rfl)) $$ H
  iintro H
  -- part 5
  simp only [k0_part5_eq_skeleton]; unfold k0_part5_skel
  simp only [semSignalWord, semWaitWord, Prog.lift, Prog.bind_op, Prog.bind_ret, Prog.pure_eq_ret, wp_deviceId]
  iapply (keep (step_send m ρ K c ⟨k0_dev19 c, k0_dev19_lt c⟩ 13 (fore_of c ⟨k0_dev19 c, k0_dev19_lt c⟩ 13 (k0_dev19_eq c)) [2, 12, 3, 11, 4, 10, 5, 9, 6, 8, 7] [1, 14, 0]
      (xBlk_of_off (k0_off2_eq c 13) _) (slot_of_off (k0_off1_eq c) _) rfl rfl)) $$ H
  iintro H
  iapply (keep (step_send m ρ K c ⟨k0_dev20 c, k0_dev20_lt c⟩ 2 (fore_of c ⟨k0_dev20 c, k0_dev20_lt c⟩ 2 (k0_dev20_eq c)) [12, 3, 11, 4, 10, 5, 9, 6, 8, 7] [13, 1, 14, 0]
      (xBlk_of_off (k0_off2_eq c 2) _) (slot_of_off (k0_off1_eq c) _) rfl rfl)) $$ H
  iintro H
  iapply (keep (step_send m ρ K c ⟨k0_dev21 c, k0_dev21_lt c⟩ 12 (fore_of c ⟨k0_dev21 c, k0_dev21_lt c⟩ 12 (k0_dev21_eq c)) [3, 11, 4, 10, 5, 9, 6, 8, 7] [2, 13, 1, 14, 0]
      (xBlk_of_off (k0_off2_eq c 12) _) (slot_of_off (k0_off1_eq c) _) rfl rfl)) $$ H
  iintro H
  -- part 6
  simp only [k0_part6_eq_skeleton]; unfold k0_part6_skel
  simp only [semSignalWord, semWaitWord, Prog.lift, Prog.bind_op, Prog.bind_ret, Prog.pure_eq_ret, wp_deviceId]
  iapply (keep (step_send m ρ K c ⟨k0_dev22 c, k0_dev22_lt c⟩ 3 (fore_of c ⟨k0_dev22 c, k0_dev22_lt c⟩ 3 (k0_dev22_eq c)) [11, 4, 10, 5, 9, 6, 8, 7] [12, 2, 13, 1, 14, 0]
      (xBlk_of_off (k0_off2_eq c 3) _) (slot_of_off (k0_off1_eq c) _) rfl rfl)) $$ H
  iintro H
  iapply (keep (step_send m ρ K c ⟨k0_dev23 c, k0_dev23_lt c⟩ 11 (fore_of c ⟨k0_dev23 c, k0_dev23_lt c⟩ 11 (k0_dev23_eq c)) [4, 10, 5, 9, 6, 8, 7] [3, 12, 2, 13, 1, 14, 0]
      (xBlk_of_off (k0_off2_eq c 11) _) (slot_of_off (k0_off1_eq c) _) rfl rfl)) $$ H
  iintro H
  -- part 7
  simp only [k0_part7_eq_skeleton]; unfold k0_part7_skel
  simp only [semSignalWord, semWaitWord, Prog.lift, Prog.bind_op, Prog.bind_ret, Prog.pure_eq_ret, wp_deviceId]
  iapply (keep (step_send m ρ K c ⟨k0_dev24 c, k0_dev24_lt c⟩ 4 (fore_of c ⟨k0_dev24 c, k0_dev24_lt c⟩ 4 (k0_dev24_eq c)) [10, 5, 9, 6, 8, 7] [11, 3, 12, 2, 13, 1, 14, 0]
      (xBlk_of_off (k0_off2_eq c 4) _) (slot_of_off (k0_off1_eq c) _) rfl rfl)) $$ H
  iintro H
  iapply (keep (step_send m ρ K c ⟨k0_dev25 c, k0_dev25_lt c⟩ 10 (fore_of c ⟨k0_dev25 c, k0_dev25_lt c⟩ 10 (k0_dev25_eq c)) [5, 9, 6, 8, 7] [4, 11, 3, 12, 2, 13, 1, 14, 0]
      (xBlk_of_off (k0_off2_eq c 10) _) (slot_of_off (k0_off1_eq c) _) rfl rfl)) $$ H
  iintro H
  iapply (keep (step_send m ρ K c ⟨k0_dev26 c, k0_dev26_lt c⟩ 5 (fore_of c ⟨k0_dev26 c, k0_dev26_lt c⟩ 5 (k0_dev26_eq c)) [9, 6, 8, 7] [10, 4, 11, 3, 12, 2, 13, 1, 14, 0]
      (xBlk_of_off (k0_off2_eq c 5) _) (slot_of_off (k0_off1_eq c) _) rfl rfl)) $$ H
  iintro H
  -- part 8
  simp only [k0_part8_eq_skeleton]; unfold k0_part8_skel
  simp only [semSignalWord, semWaitWord, Prog.lift, Prog.bind_op, Prog.bind_ret, Prog.pure_eq_ret, wp_deviceId]
  iapply (keep (step_send m ρ K c ⟨k0_dev27 c, k0_dev27_lt c⟩ 9 (fore_of c ⟨k0_dev27 c, k0_dev27_lt c⟩ 9 (k0_dev27_eq c)) [6, 8, 7] [5, 10, 4, 11, 3, 12, 2, 13, 1, 14, 0]
      (xBlk_of_off (k0_off2_eq c 9) _) (slot_of_off (k0_off1_eq c) _) rfl rfl)) $$ H
  iintro H
  iapply (keep (step_send m ρ K c ⟨k0_dev28 c, k0_dev28_lt c⟩ 6 (fore_of c ⟨k0_dev28 c, k0_dev28_lt c⟩ 6 (k0_dev28_eq c)) [8, 7] [9, 5, 10, 4, 11, 3, 12, 2, 13, 1, 14, 0]
      (xBlk_of_off (k0_off2_eq c 6) _) (slot_of_off (k0_off1_eq c) _) rfl rfl)) $$ H
  iintro H
  -- part 9
  simp only [k0_part9_eq_skeleton]; unfold k0_part9_skel
  simp only [semSignalWord, semWaitWord, Prog.lift, Prog.bind_op, Prog.bind_ret, Prog.pure_eq_ret, wp_deviceId]
  iapply (keep (step_send m ρ K c ⟨k0_dev29 c, k0_dev29_lt c⟩ 8 (fore_of c ⟨k0_dev29 c, k0_dev29_lt c⟩ 8 (k0_dev29_eq c)) [7] [6, 9, 5, 10, 4, 11, 3, 12, 2, 13, 1, 14, 0]
      (xBlk_of_off (k0_off2_eq c 8) _) (slot_of_off (k0_off1_eq c) _) rfl rfl)) $$ H
  iintro H
  iapply (keep (step_send m ρ K c ⟨k0_dev30 c, k0_dev30_lt c⟩ 7 (fore_of c ⟨k0_dev30 c, k0_dev30_lt c⟩ 7 (k0_dev30_eq c)) [] [8, 6, 9, 5, 10, 4, 11, 3, 12, 2, 13, 1, 14, 0]
      (xBlk_of_off (k0_off2_eq c 7) _) (slot_of_off (k0_off1_eq c) _) rfl rfl)) $$ H
  iintro H
  icases H with ⟨-, HO, -, -, Hcr⟩
  rw [show owedSend c [] = 0 from rfl]
  iapply (step_load_x m ρ c c (k0_off3_eq c)) $$ Hx
  iintro Hx
  iapply (step_load_old c c (k0_off4_eq c) fg) $$ Hg
  iintro %vOld Hg
  iapply (step_store_own m ρ c (k0_off4_eq c) fg) $$ Hg
  iintro Hg
  iapply (step_wait_copy m ρ K c rfl) $$ [HO Hcc Hac]
  · isplitr; · iexact HR
    isplitl [HO]; · iexact HO
    isplitl [Hcc]; · iexact Hcc
    iexact Hac
  iintro ⟨HO, Hw, Hh, Hzc⟩
  iapply (step_load_slot m ρ c c (k0_off4_eq c)) $$ Hg
  iintro Hg
  iapply (step_load_w m ρ c c (k0_off5_eq c)) $$ Hw
  iintro Hw
  ihave Hdone : listSep (recvDone m ρ c) [] $$ []
  · unfold listSep; iempintro
  ihave H : iprop(records m ρ K ∗ owesW (F := F) c 0 ∗ listSep (recvItem (F := F) c) ord ∗ listSep (recvDone m ρ c) []) $$ [HO Hrecv Hdone]
  · isplitr; · iexact HR
    isplitl [HO]; · iexact HO
    isplitl [Hrecv]; · iexact Hrecv
    iexact Hdone
  -- part 10
  simp only [k0_part10_eq_skeleton]; unfold k0_part10_skel
  simp only [semSignalWord, semWaitWord, Prog.lift, Prog.bind_op, Prog.bind_ret, Prog.pure_eq_ret, wp_deviceId]
  iapply (keep (step_wait_recv m ρ K c 0 [14, 1, 13, 2, 12, 3, 11, 4, 10, 5, 9, 6, 8, 7] [] rfl (back c 0) (slot_of_off (k0_off6_eq c 0) _))) $$ H
  iintro H
  iapply (step_load_recv m ρ K c 0 [14, 1, 13, 2, 12, 3, 11, 4, 10, 5, 9, 6, 8, 7] [] (k0_off7_eq c 0)) $$ H
  iintro H
  iapply (step_load_w m ρ c (back c 0) (k0_off8_eq c 0)) $$ Hw
  iintro Hw
  iapply (keep (step_wait_recv m ρ K c 14 [1, 13, 2, 12, 3, 11, 4, 10, 5, 9, 6, 8, 7] [0] rfl (back c 14) (slot_of_off (k0_off6_eq c 14) _))) $$ H
  iintro H
  iapply (step_load_recv m ρ K c 14 [1, 13, 2, 12, 3, 11, 4, 10, 5, 9, 6, 8, 7] [0] (k0_off7_eq c 14)) $$ H
  iintro H
  iapply (step_load_w m ρ c (back c 14) (k0_off8_eq c 14)) $$ Hw
  iintro Hw
  -- part 11
  simp only [k0_part11_eq_skeleton]; unfold k0_part11_skel
  simp only [semSignalWord, semWaitWord, Prog.lift, Prog.bind_op, Prog.bind_ret, Prog.pure_eq_ret, wp_deviceId]
  iapply (keep (step_wait_recv m ρ K c 1 [13, 2, 12, 3, 11, 4, 10, 5, 9, 6, 8, 7] [14, 0] rfl (back c 1) (slot_of_off (k0_off6_eq c 1) _))) $$ H
  iintro H
  iapply (step_load_recv m ρ K c 1 [13, 2, 12, 3, 11, 4, 10, 5, 9, 6, 8, 7] [14, 0] (k0_off7_eq c 1)) $$ H
  iintro H
  iapply (step_load_w m ρ c (back c 1) (k0_off8_eq c 1)) $$ Hw
  iintro Hw
  iapply (keep (step_wait_recv m ρ K c 13 [2, 12, 3, 11, 4, 10, 5, 9, 6, 8, 7] [1, 14, 0] rfl (back c 13) (slot_of_off (k0_off6_eq c 13) _))) $$ H
  iintro H
  -- part 12
  simp only [k0_part12_eq_skeleton]; unfold k0_part12_skel
  simp only [semSignalWord, semWaitWord, Prog.lift, Prog.bind_op, Prog.bind_ret, Prog.pure_eq_ret, wp_deviceId]
  iapply (step_load_recv m ρ K c 13 [2, 12, 3, 11, 4, 10, 5, 9, 6, 8, 7] [1, 14, 0] (k0_off7_eq c 13)) $$ H
  iintro H
  iapply (step_load_w m ρ c (back c 13) (k0_off8_eq c 13)) $$ Hw
  iintro Hw
  iapply (keep (step_wait_recv m ρ K c 2 [12, 3, 11, 4, 10, 5, 9, 6, 8, 7] [13, 1, 14, 0] rfl (back c 2) (slot_of_off (k0_off6_eq c 2) _))) $$ H
  iintro H
  iapply (step_load_recv m ρ K c 2 [12, 3, 11, 4, 10, 5, 9, 6, 8, 7] [13, 1, 14, 0] (k0_off7_eq c 2)) $$ H
  iintro H
  iapply (step_load_w m ρ c (back c 2) (k0_off8_eq c 2)) $$ Hw
  iintro Hw
  -- part 13
  simp only [k0_part13_eq_skeleton]; unfold k0_part13_skel
  simp only [semSignalWord, semWaitWord, Prog.lift, Prog.bind_op, Prog.bind_ret, Prog.pure_eq_ret, wp_deviceId]
  iapply (keep (step_wait_recv m ρ K c 12 [3, 11, 4, 10, 5, 9, 6, 8, 7] [2, 13, 1, 14, 0] rfl (back c 12) (slot_of_off (k0_off6_eq c 12) _))) $$ H
  iintro H
  iapply (step_load_recv m ρ K c 12 [3, 11, 4, 10, 5, 9, 6, 8, 7] [2, 13, 1, 14, 0] (k0_off7_eq c 12)) $$ H
  iintro H
  iapply (step_load_w m ρ c (back c 12) (k0_off8_eq c 12)) $$ Hw
  iintro Hw
  iapply (keep (step_wait_recv m ρ K c 3 [11, 4, 10, 5, 9, 6, 8, 7] [12, 2, 13, 1, 14, 0] rfl (back c 3) (slot_of_off (k0_off6_eq c 3) _))) $$ H
  iintro H
  iapply (step_load_recv m ρ K c 3 [11, 4, 10, 5, 9, 6, 8, 7] [12, 2, 13, 1, 14, 0] (k0_off7_eq c 3)) $$ H
  iintro H
  iapply (step_load_w m ρ c (back c 3) (k0_off8_eq c 3)) $$ Hw
  iintro Hw
  -- part 14
  simp only [k0_part14_eq_skeleton]; unfold k0_part14_skel
  simp only [semSignalWord, semWaitWord, Prog.lift, Prog.bind_op, Prog.bind_ret, Prog.pure_eq_ret, wp_deviceId]
  iapply (keep (step_wait_recv m ρ K c 11 [4, 10, 5, 9, 6, 8, 7] [3, 12, 2, 13, 1, 14, 0] rfl (back c 11) (slot_of_off (k0_off6_eq c 11) _))) $$ H
  iintro H
  iapply (step_load_recv m ρ K c 11 [4, 10, 5, 9, 6, 8, 7] [3, 12, 2, 13, 1, 14, 0] (k0_off7_eq c 11)) $$ H
  iintro H
  iapply (step_load_w m ρ c (back c 11) (k0_off8_eq c 11)) $$ Hw
  iintro Hw
  iapply (keep (step_wait_recv m ρ K c 4 [10, 5, 9, 6, 8, 7] [11, 3, 12, 2, 13, 1, 14, 0] rfl (back c 4) (slot_of_off (k0_off6_eq c 4) _))) $$ H
  iintro H
  iapply (step_load_recv m ρ K c 4 [10, 5, 9, 6, 8, 7] [11, 3, 12, 2, 13, 1, 14, 0] (k0_off7_eq c 4)) $$ H
  iintro H
  -- part 15
  simp only [k0_part15_eq_skeleton]; unfold k0_part15_skel
  simp only [semSignalWord, semWaitWord, Prog.lift, Prog.bind_op, Prog.bind_ret, Prog.pure_eq_ret, wp_deviceId]
  iapply (step_load_w m ρ c (back c 4) (k0_off8_eq c 4)) $$ Hw
  iintro Hw
  iapply (keep (step_wait_recv m ρ K c 10 [5, 9, 6, 8, 7] [4, 11, 3, 12, 2, 13, 1, 14, 0] rfl (back c 10) (slot_of_off (k0_off6_eq c 10) _))) $$ H
  iintro H
  iapply (step_load_recv m ρ K c 10 [5, 9, 6, 8, 7] [4, 11, 3, 12, 2, 13, 1, 14, 0] (k0_off7_eq c 10)) $$ H
  iintro H
  iapply (step_load_w m ρ c (back c 10) (k0_off8_eq c 10)) $$ Hw
  iintro Hw
  -- part 16
  simp only [k0_part16_eq_skeleton]; unfold k0_part16_skel
  simp only [semSignalWord, semWaitWord, Prog.lift, Prog.bind_op, Prog.bind_ret, Prog.pure_eq_ret, wp_deviceId]
  iapply (keep (step_wait_recv m ρ K c 5 [9, 6, 8, 7] [10, 4, 11, 3, 12, 2, 13, 1, 14, 0] rfl (back c 5) (slot_of_off (k0_off6_eq c 5) _))) $$ H
  iintro H
  iapply (step_load_recv m ρ K c 5 [9, 6, 8, 7] [10, 4, 11, 3, 12, 2, 13, 1, 14, 0] (k0_off7_eq c 5)) $$ H
  iintro H
  iapply (step_load_w m ρ c (back c 5) (k0_off8_eq c 5)) $$ Hw
  iintro Hw
  iapply (keep (step_wait_recv m ρ K c 9 [6, 8, 7] [5, 10, 4, 11, 3, 12, 2, 13, 1, 14, 0] rfl (back c 9) (slot_of_off (k0_off6_eq c 9) _))) $$ H
  iintro H
  iapply (step_load_recv m ρ K c 9 [6, 8, 7] [5, 10, 4, 11, 3, 12, 2, 13, 1, 14, 0] (k0_off7_eq c 9)) $$ H
  iintro H
  iapply (step_load_w m ρ c (back c 9) (k0_off8_eq c 9)) $$ Hw
  iintro Hw
  -- part 17
  simp only [k0_part17_eq_skeleton]; unfold k0_part17_skel
  simp only [semSignalWord, semWaitWord, Prog.lift, Prog.bind_op, Prog.bind_ret, Prog.pure_eq_ret, wp_deviceId]
  iapply (keep (step_wait_recv m ρ K c 6 [8, 7] [9, 5, 10, 4, 11, 3, 12, 2, 13, 1, 14, 0] rfl (back c 6) (slot_of_off (k0_off6_eq c 6) _))) $$ H
  iintro H
  iapply (step_load_recv m ρ K c 6 [8, 7] [9, 5, 10, 4, 11, 3, 12, 2, 13, 1, 14, 0] (k0_off7_eq c 6)) $$ H
  iintro H
  iapply (step_load_w m ρ c (back c 6) (k0_off8_eq c 6)) $$ Hw
  iintro Hw
  iapply (keep (step_wait_recv m ρ K c 8 [7] [6, 9, 5, 10, 4, 11, 3, 12, 2, 13, 1, 14, 0] rfl (back c 8) (slot_of_off (k0_off6_eq c 8) _))) $$ H
  iintro H
  iapply (step_load_recv m ρ K c 8 [7] [6, 9, 5, 10, 4, 11, 3, 12, 2, 13, 1, 14, 0] (k0_off7_eq c 8)) $$ H
  iintro H
  iapply (step_load_w m ρ c (back c 8) (k0_off8_eq c 8)) $$ Hw
  iintro Hw
  -- part 18
  simp only [k0_part18_eq_skeleton]; unfold k0_part18_skel
  simp only [semSignalWord, semWaitWord, Prog.lift, Prog.bind_op, Prog.bind_ret, Prog.pure_eq_ret, wp_deviceId]
  iapply (keep (step_wait_recv m ρ K c 7 [] [8, 6, 9, 5, 10, 4, 11, 3, 12, 2, 13, 1, 14, 0] rfl (back c 7) (slot_of_off (k0_off6_eq c 7) _))) $$ H
  iintro H
  iapply (step_load_recv m ρ K c 7 [] [8, 6, 9, 5, 10, 4, 11, 3, 12, 2, 13, 1, 14, 0] (k0_off7_eq c 7)) $$ H
  iintro H
  iapply (step_load_w m ρ c (back c 7) (k0_off8_eq c 7)) $$ Hw
  iintro Hw
  icases H with ⟨-, HO, -, Hdone⟩
  iapply (wp_load 𝒱₀ (c : Thread nD τ) none Set.univ (m := oM) (Finset.subset_univ _)) $$ Hout
  iintro Hout
  iapply (step_store_out c fo) $$ Hout
  iintro Hout
  ihave Hout := (Entails.of_eq (congrArg (fun g => (((c : Thread nD τ).loc cc0_stg1_0) ↦{fullShare} g : sProp 𝕄)) (total_eq m ρ c))) $$ Hout
  ihave Hcr := (Entails.of_eq (show listSep (credItem (F := F) c) ordR = listSep (credItem (F := F) c) ord from
    (listSep_univ _ (by decide) (by decide)).trans (listSep_univ _ ord_nodup ord_all).symm)) $$ Hcr
  ihave Hback : listSep (sendDone m ρ c) [] $$ []
  · unfold listSep; iempintro
  ihave H : iprop(records m ρ K ∗ owesW (F := F) c 0 ∗ listSep (credItem (F := F) c) ord ∗ listSep (posItem (F := F) c) ord ∗ listSep (sendDone m ρ c) []) $$ [HO Hcr Hpos Hback]
  · isplitr; · iexact HR
    isplitl [HO]; · iexact HO
    isplitl [Hcr]; · iexact Hcr
    isplitl [Hpos]; · iexact Hpos
    iexact Hback
  iapply (keep (step_wait_send m ρ K c 0 [14, 1, 13, 2, 12, 3, 11, 4, 10, 5, 9, 6, 8, 7] [] rfl (fore c 0) (xBlk_of_off (k0_off2_eq c 0) _))) $$ H
  iintro H
  -- part 19
  simp only [k0_part19_eq_skeleton]; unfold k0_part19_skel
  simp only [semSignalWord, semWaitWord, Prog.lift, Prog.bind_op, Prog.bind_ret, Prog.pure_eq_ret, wp_deviceId]
  iapply (keep (step_wait_send m ρ K c 14 [1, 13, 2, 12, 3, 11, 4, 10, 5, 9, 6, 8, 7] [0] rfl (fore c 14) (xBlk_of_off (k0_off2_eq c 14) _))) $$ H
  iintro H
  iapply (keep (step_wait_send m ρ K c 1 [13, 2, 12, 3, 11, 4, 10, 5, 9, 6, 8, 7] [14, 0] rfl (fore c 1) (xBlk_of_off (k0_off2_eq c 1) _))) $$ H
  iintro H
  iapply (keep (step_wait_send m ρ K c 13 [2, 12, 3, 11, 4, 10, 5, 9, 6, 8, 7] [1, 14, 0] rfl (fore c 13) (xBlk_of_off (k0_off2_eq c 13) _))) $$ H
  iintro H
  iapply (keep (step_wait_send m ρ K c 2 [12, 3, 11, 4, 10, 5, 9, 6, 8, 7] [13, 1, 14, 0] rfl (fore c 2) (xBlk_of_off (k0_off2_eq c 2) _))) $$ H
  iintro H
  iapply (keep (step_wait_send m ρ K c 12 [3, 11, 4, 10, 5, 9, 6, 8, 7] [2, 13, 1, 14, 0] rfl (fore c 12) (xBlk_of_off (k0_off2_eq c 12) _))) $$ H
  iintro H
  -- part 20
  simp only [k0_part20_eq_skeleton]; unfold k0_part20_skel
  simp only [semSignalWord, semWaitWord, Prog.lift, Prog.bind_op, Prog.bind_ret, Prog.pure_eq_ret, wp_deviceId]
  iapply (keep (step_wait_send m ρ K c 3 [11, 4, 10, 5, 9, 6, 8, 7] [12, 2, 13, 1, 14, 0] rfl (fore c 3) (xBlk_of_off (k0_off2_eq c 3) _))) $$ H
  iintro H
  iapply (keep (step_wait_send m ρ K c 11 [4, 10, 5, 9, 6, 8, 7] [3, 12, 2, 13, 1, 14, 0] rfl (fore c 11) (xBlk_of_off (k0_off2_eq c 11) _))) $$ H
  iintro H
  iapply (keep (step_wait_send m ρ K c 4 [10, 5, 9, 6, 8, 7] [11, 3, 12, 2, 13, 1, 14, 0] rfl (fore c 4) (xBlk_of_off (k0_off2_eq c 4) _))) $$ H
  iintro H
  iapply (keep (step_wait_send m ρ K c 10 [5, 9, 6, 8, 7] [4, 11, 3, 12, 2, 13, 1, 14, 0] rfl (fore c 10) (xBlk_of_off (k0_off2_eq c 10) _))) $$ H
  iintro H
  iapply (keep (step_wait_send m ρ K c 5 [9, 6, 8, 7] [10, 4, 11, 3, 12, 2, 13, 1, 14, 0] rfl (fore c 5) (xBlk_of_off (k0_off2_eq c 5) _))) $$ H
  iintro H
  iapply (keep (step_wait_send m ρ K c 9 [6, 8, 7] [5, 10, 4, 11, 3, 12, 2, 13, 1, 14, 0] rfl (fore c 9) (xBlk_of_off (k0_off2_eq c 9) _))) $$ H
  iintro H
  iapply (keep (step_wait_send m ρ K c 6 [8, 7] [9, 5, 10, 4, 11, 3, 12, 2, 13, 1, 14, 0] rfl (fore c 6) (xBlk_of_off (k0_off2_eq c 6) _))) $$ H
  iintro H
  iapply (keep (step_wait_send m ρ K c 8 [7] [6, 9, 5, 10, 4, 11, 3, 12, 2, 13, 1, 14, 0] rfl (fore c 8) (xBlk_of_off (k0_off2_eq c 8) _))) $$ H
  iintro H
  iapply (keep (step_wait_send m ρ K c 7 [] [8, 6, 9, 5, 10, 4, 11, 3, 12, 2, 13, 1, 14, 0] rfl (fore c 7) (xBlk_of_off (k0_off2_eq c 7) _))) $$ H
  iintro H
  icases H with ⟨-, HO, -, -, Hback⟩
  rw [wp_ret]
  imodintro
  iapply Hend
  unfold runPost
  isplitl [HO]; · iexact HO
  isplitl [Hzb]; · iexact Hzb
  isplitl [Hw Hh Hzc]
  · isplitl [Hw]; · iexact Hw
    isplitl [Hh]; · iexact Hh
    iexact Hzc
  isplitl [Hg Hdone]
  · isplitl [Hg]; · iexact Hg
    iexact Hdone
  isplitl [Hx Hback]
  · isplitl [Hx]; · iexact Hx
    iexact Hback
  iexact Hout

end Cert.Exchange

end
-- ==== Proof.Launch.lean ====
/-
The launch: what every device holds at the start and at the end, the body's obligation, the ghost state dealt to the
devices, and the run of the whole program.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.ShloMosaic.Pipeline (Dat BodyObligation Cfg)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

omit [FloatOps F] in
/-- One thing for every device: device `c`'s, and those of the others by offset forward … -/
theorem split_fore (c : Dev nD) (Φ : Dev nD → sProp 𝕄) : bigSep Finset.univ Φ = iprop(Φ c ∗ bigSep Finset.univ fun r => Φ (fore c r)) := by
  rw [univ_fore c, bigSep_insert (not_mem_fore c), bigSep_map]; rfl
omit [FloatOps F] in
/-- … or backward. -/
theorem split_back (c : Dev nD) (Φ : Dev nD → sProp 𝕄) : bigSep Finset.univ Φ = iprop(Φ c ∗ bigSep Finset.univ fun r => Φ (back c r)) := by
  rw [univ_back c, bigSep_insert (not_mem_back c), bigSep_map]; rfl

/-- The tokens of the duties device `c` pays: a unit to every other device's barrier, its own copy's, its sends', and the
    receives at the other end. -/
def payToks (c : Dev nD) : sProp 𝕄 :=
  iprop((bigSep Finset.univ fun r : Fin 15 => dutyTok ER (cell (fore c r) kbar) 0 r) ∗ dutyTok ER (cell c kcopy) 0 0
    ∗ (bigSep Finset.univ fun r : Fin 15 => dutyTok ER (cell c (ksend r)) 0 0)
    ∗ (bigSep Finset.univ fun r : Fin 15 => dutyTok ER (cell (fore c r) (krecv r)) 0 0))

/-- Where device `c` stands on each of its cells. -/
def positions (c : Dev nD) : sProp 𝕄 := bigSep Finset.univ fun k : CK => atPos ER (cell c k) 0 ∅ 0

omit [FloatOps F] in
/-- One thing for every cell of a device, kind by kind. -/
theorem bigSep_CK (Φ : CK → sProp 𝕄) : bigSep Finset.univ Φ
    = iprop(Φ kbar ∗ Φ kcopy ∗ (bigSep Finset.univ fun r => Φ (ksend r)) ∗ bigSep Finset.univ fun r => Φ (krecv r)) := by
  rw [bigSep_univ_sum, bigSep_univ_sum, bigSep_univ_sum, show (Finset.univ : Finset Unit) = {()} from rfl, bigSep_singleton, bigSep_singleton]; rfl

/-- Device `c`'s share of the ghost state: the records, its positions, and the tokens of the duties it pays. -/
def ghost (K : Dev nD × CK → ℕ) (c : Dev nD) : sProp 𝕄 := iprop(records m ρ K ∗ positions (F := F) c ∗ payToks (F := F) c)

/-- The credits a device starts with: its barrier's fifteen units, and every receive cell's. -/
def startCreds (c : Dev nD) : sProp 𝕄 :=
  iprop(cred (tallyAt (cell c kbar) () 15) ∗ bigSep Finset.univ fun r : Fin 15 => cred (tallyAt (cell c (krecv r)) () N))

/-- What device `c` holds before the body, the staged buffers apart; -/
def start (c : Dev nD) : sProp 𝕄 :=
  iprop((∃ K, ghost m ρ K c) ∗ startCreds (F := F) c ∗ levAts L lv ∗ hPts m ρ c)

/-- the same with its two scratch buffers, whatever they hold; -/
def Φ₀ (c : Dev nD) : sProp 𝕄 :=
  iprop(start m ρ c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- and what it holds after. -/
def Φ₁ (c : Dev nD) : sProp 𝕄 :=
  iprop(wPts m ρ c ∗ hPts m ρ c ∗ (((c : Thread nD τ).loc cc0_scratch1) ↦{fullShare} gath m ρ c)
    ∗ semVal (cell c kbar) 0 ∗ semVal (cell c kcopy) 0
    ∗ (bigSep Finset.univ fun r : Fin 15 => semVal (cell c (ksend r)) 0) ∗ bigSep Finset.univ fun r : Fin 15 => semVal (cell c (krecv r)) 0)

/-- The pipeline's data: the arrays at launch, what the body leaves in each window, and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body's obligation -/

/-- The one grid point. -/
abbrev pt : Fin cfg0.N := ⟨0, by decide⟩

/-- `x` is fetched at the one point. -/
theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition; -/
def bodyPre (c : Dev nD) : sProp 𝕄 :=
  iprop(Φ₀ m ρ c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))

/-- and its postcondition. -/
def bodyPost (c : Dev nD) : sProp 𝕄 :=
  iprop(Φ₁ m ρ c ∗ (dats m ρ 0 c).owesAt () pt.succ ∗ stg c cc0_stg0_0 (xstg m ρ c) ∗ stg c cc0_stg1_0 (outAt m ρ c))

omit [FloatOps F] in
/-- The gather buffer is its slots. -/
theorem slots_eq (c : Dev nD) (f : (cc0_scratch1 : Ref sig .tc).ty.Contents (Elt F)) :
    ((((c : Thread nD τ).loc cc0_scratch1) ↦{fullShare} f : sProp 𝕄)) = bigSep Finset.univ fun s => slotPts c s f := by
  unfold slotPts
  exact Ring.pointsTo_blocks (ℓ := (c : Thread nD τ).loc cc0_scratch1) (q := fullShare) gSet g_disj g_cover f
omit [FloatOps F] in
/-- The staged `x` is its row blocks. -/
theorem blocks_eq (c : Dev nD) :
    ((((c : Thread nD τ).loc cc0_stg0_0) ↦{fullShare} xstg m ρ c : sProp 𝕄)) = bigSep Finset.univ fun t => xPts m ρ c t := by
  unfold xPts
  exact Ring.pointsTo_blocks (ℓ := (c : Thread nD τ).loc cc0_stg0_0) (q := fullShare) xSet x_disj x_cover (xstg m ρ c)

omit [FloatOps F] in
/-- What the signals take: the tokens, and the slots of the others. -/
theorem sigs_intro (c : Dev nD) (f : (cc0_scratch1 : Ref sig .tc).ty.Contents (Elt F)) :
    iprop((bigSep Finset.univ fun r : Fin 15 => dutyTok ER (cell (fore c r) kbar) 0 r) ∗ bigSep Finset.univ fun r : Fin 15 => slotPts c (fore c r) f)
      ⊢ listSep (sigItem (F := F) c) fwd := by
  rw [listSep_univ _ fwd_nodup fwd_all, ← bigSep_sep']
  refine bigSep_mono fun r _ => ?_
  show iprop(dutyTok ER (cell (fore c r) kbar) 0 r ∗ slotPts c (fore c r) f) ⊢ sigItem (F := F) c r
  unfold sigItem
  iintro ⟨H1, H2⟩
  isplitl [H1]; · iexact H1
  iexists f; iexact H2

omit [FloatOps F] in
/-- What the transfers take. -/
theorem blks_intro (c : Dev nD) :
    iprop((bigSep Finset.univ fun r : Fin 15 => xPts m ρ c (fore c r)) ∗ (bigSep Finset.univ fun r : Fin 15 => dutyTok ER (cell c (ksend r)) 0 0)
        ∗ bigSep Finset.univ fun r : Fin 15 => dutyTok ER (cell (fore c r) (krecv r)) 0 0)
      ⊢ listSep (blkItem m ρ c) ord := by
  rw [listSep_univ _ ord_nodup ord_all, ← bigSep_sep', ← bigSep_sep']
  exact Entails.of_eq rfl

omit [FloatOps F] in
/-- What the receive waits take. -/
theorem recvs_intro (c : Dev nD) :
    iprop((bigSep Finset.univ fun r : Fin 15 => cred (tallyAt (cell c (krecv r)) () N)) ∗ bigSep Finset.univ fun r : Fin 15 => atPos ER (cell c (krecv r)) 0 ∅ 0)
      ⊢ listSep (recvItem (F := F) c) ord := by
  rw [listSep_univ _ ord_nodup ord_all, ← bigSep_sep']
  exact Entails.of_eq rfl

omit [FloatOps F] in
/-- What the receive waits leave: with the slot the device keeps, the whole gather buffer; and the cells at zero. -/
theorem recvs_elim (c : Dev nD) :
    iprop(slotPts c c (gath m ρ c) ∗ listSep (recvDone m ρ c) ordR)
      ⊢ iprop((((c : Thread nD τ).loc cc0_scratch1) ↦{fullShare} gath m ρ c) ∗ bigSep Finset.univ fun r : Fin 15 => semVal (cell c (krecv r)) 0) := by
  rw [listSep_univ _ (by decide) (by decide), slots_eq, split_back c]
  unfold recvDone
  rw [bigSep_sep']
  iintro ⟨H1, H2, H3⟩
  isplitl [H1 H2]
  · isplitl [H1]; · iexact H1
    iexact H2
  iexact H3

omit [FloatOps F] in
/-- What the send waits leave: the whole of the staged `x`; and the cells at zero. -/
theorem sends_elim (c : Dev nD) :
    iprop(xPts m ρ c c ∗ listSep (sendDone m ρ c) ordR)
      ⊢ iprop((((c : Thread nD τ).loc cc0_stg0_0) ↦{fullShare} xstg m ρ c) ∗ bigSep Finset.univ fun r : Fin 15 => semVal (cell c (ksend r)) 0) := by
  rw [listSep_univ _ (by decide) (by decide), blocks_eq, split_fore c]
  unfold sendDone
  rw [bigSep_sep']
  iintro ⟨H1, H2, H3⟩
  isplitl [H1 H2]
  · isplitl [H1]; · iexact H1
    iexact H2
  iexact H3

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) hM (Memref.isWhole_whole _) oM (Memref.isWhole_whole _)
            wM (Memref.isWhole_whole _) gM (Memref.isWhole_whole _) cc0_scratch2 cc0_scratch3 cc0_scratch4) (fun _ => bodyPost m ρ c)
  unfold bodyPre Φ₀ start ghost positions payToks startCreds
  rw [bigSep_CK]
  iintro ⟨⟨⟨⟨%K, HR, ⟨Hab, Hac, Has, Har⟩, Htb, Htc, Hts, Htr⟩, ⟨Hcb, Hcr⟩, Hlev, Hh⟩, ⟨%fw, Hw⟩, ⟨%fg, Hg⟩⟩,
    Ho, ⟨%d0, %g0, %hg0, Hx⟩, ⟨%d1, %g1, %hg1, Hout⟩⟩
  have hx : g0 = xstg m ρ c := by rw [hg0]; unfold Dat.before; rw [if_pos (fetch_0 pt)]; rfl
  subst hx
  unfold Dat.owesAt Pipeline.owesWithin
  icases Ho with ⟨%W, %hW, HO⟩
  rw [show (dats m ρ 0 c).owed pt.castSucc = O₀ c from rfl]
  ihave Hx := (Entails.of_eq ((blocks_eq m ρ c).trans (split_fore c _))) $$ Hx
  ihave Hg := (Entails.of_eq ((slots_eq (F := F) c fg).trans (split_fore c _))) $$ Hg
  icases Hx with ⟨Hx, Hxs⟩
  icases Hg with ⟨Hg, Hgs⟩
  ihave Hsig := (sigs_intro c fg) $$ [Htb Hgs]
  · isplitl [Htb]; · iexact Htb
    iexact Hgs
  ihave Hblk := (blks_intro m ρ c) $$ [Hxs Hts Htr]
  · isplitl [Hxs]; · iexact Hxs
    isplitl [Hts]; · iexact Hts
    iexact Htr
  ihave Hrecv := (recvs_intro (F := F) c) $$ [Hcr Har]
  · isplitl [Hcr]; · iexact Hcr
    iexact Har
  ihave Hpos := (Entails.of_eq (show (bigSep Finset.univ fun r : Fin 15 => atPos ER (cell c (ksend r)) 0 ∅ 0) = listSep (posItem (F := F) c) ord from
    (listSep_univ _ ord_nodup ord_all).symm)) $$ Has
  iapply (run_body m ρ K c fw fg g1 fun _ => bodyPost m ρ c)
  isplitr []
  · unfold runPre owesW
    isplitl [HR]; · iexact HR
    isplitl [Hlev]; · iexact Hlev
    isplitl [HO]; · iexists W; iexact HO
    isplitl [Hcb Hab Hsig]
    · isplitl [Hcb]; · iexact Hcb
      isplitl [Hab]; · iexact Hab
      iexact Hsig
    isplitl [Hh Hw Htc Hac]
    · isplitl [Hh]; · iexact Hh
      isplitl [Hw]; · iexact Hw
      isplitl [Htc]; · iexact Htc
      iexact Hac
    isplitl [Hblk Hx Hg]
    · isplitl [Hblk]; · iexact Hblk
      isplitl [Hx]; · iexact Hx
      iexact Hg
    isplitl [Hrecv Hpos]
    · isplitl [Hrecv]; · iexact Hrecv
      iexact Hpos
    iexact Hout
  unfold runPost owesW
  iintro ⟨⟨%W', HO⟩, Hzb, ⟨Hw, Hh, Hzc⟩, Hg, Hx, Hout⟩
  ihave Hg := (recvs_elim m ρ c) $$ Hg
  ihave Hx := (sends_elim m ρ c) $$ Hx
  icases Hg with ⟨Hg, Hzr⟩
  icases Hx with ⟨Hx, Hzs⟩
  unfold bodyPost Φ₁ Dat.owesAt Pipeline.owesWithin
  rw [show (dats m ρ 0 c).owed pt.succ = 0 from rfl]
  isplitl [Hw Hh Hg Hzb Hzc Hzs Hzr]
  · isplitl [Hw]; · iexact Hw
    isplitl [Hh]; · iexact Hh
    isplitl [Hg]; · iexact Hg
    isplitl [Hzb]; · iexact Hzb
    isplitl [Hzc]; · iexact Hzc
    isplitl [Hzs]; · iexact Hzs
    iexact Hzr
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The ghost state dealt to the devices -/

/-- The kernel's own semaphores are its scoped ones, each named once. -/
theorem ownSemFacts : Pipeline.OwnSemFacts cfg0.spec osem := by decide

/-- Every window is owned whole. -/
theorem share_eq (c : Dev nD) (w : Fin cfg0.W) : (dats m ρ 0 c).share w = fullShare := by unfold Dat.share; split <;> rfl

/-- All cells of all devices. -/
def allCells : Finset (GSem nD τ sig) := Finset.univ.map ⟨kcell, kcell_inj⟩

/-- The tokens of a device's own cells: its barrier's fifteen, one for each other cell. -/
abbrev TK : Type := Fin 15 ⊕ OK
/-- The duty behind each token's name. -/
abbrev tokOf (cj : Dev nD × TK) : GSem nD τ sig × ℕ × Fin 15 :=
  match cj.2 with
  | .inl d => (cell cj.1 kbar, 0, d)
  | .inr j => (cell cj.1 (.inr j), 0, 0)
/-- Different names stand for different duties. -/
theorem tokOf_inj : Function.Injective (tokOf : Dev nD × TK → GSem nD τ sig × ℕ × Fin 15) := by
  rintro ⟨c, j⟩ ⟨c', j'⟩ h
  rcases j with d | j <;> rcases j' with d' | j'
  · have h1 : c = c' := (cell_eq_iff.mp (congrArg Prod.fst h)).1
    have h2 : d = d' := congrArg (fun x : GSem nD τ sig × ℕ × Fin 15 => x.2.2) h
    rw [h1, h2]
  · have h2 := (cell_eq_iff.mp (congrArg Prod.fst h)).2
    exact absurd h2 (by simp)
  · have h2 := (cell_eq_iff.mp (congrArg Prod.fst h)).2
    exact absurd h2 (by simp)
  · have h1 : c = c' ∧ (Sum.inr j : CK) = Sum.inr j' := cell_eq_iff.mp (congrArg Prod.fst h)
    rw [h1.1, Sum.inr.inj h1.2]
/-- All duties of all cells. -/
def allToks : Finset (GSem nD τ sig × ℕ × Fin 15) := Finset.univ.map ⟨tokOf, tokOf_inj⟩

/-- The ghost state at launch. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 15 => dutyTok ER (cell c kbar) 0 d) ∗ dutyTok ER (cell c kcopy) 0 0
    ∗ (bigSep Finset.univ fun r : Fin 15 => dutyTok ER (cell c (ksend r)) 0 0)
    ∗ (bigSep Finset.univ fun r : Fin 15 => dutyTok ER (cell c (krecv r)) 0 0))

/-- What the launch deals device `c`; -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)
/-- and what the devices together make of it. -/
def G' (c : Dev nD) : sProp 𝕄 := iprop(∃ K, ghost m ρ K c)

omit [FloatOps F] in
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum, bigSep_univ_sum, show (Finset.univ : Finset Unit) = {()} from rfl, bigSep_singleton]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are those of its own cells; -/
theorem ownSems0_eq (c : Dev nD) : (Pipeline.ownSems0 (Ix := Unit) (Name := ℕ) (U := UU) (Lvl := ℕ) (Val := Elt F) (τ := τ) osem c : sProp 𝕄)
    = iprop(semVal (cell c kcopy) 0 ∗ (bigSep Finset.univ fun r : Fin 15 => semVal (cell c (ksend r)) 0) ∗ bigSep Finset.univ fun r : Fin 15 => semVal (cell c (krecv r)) 0) := by
  unfold Pipeline.ownSems0
  rw [bigSep_univ_sum, bigSep_univ_sum, show (Finset.univ : Finset Unit) = {()} from rfl, bigSep_singleton]; rfl
omit [FloatOps F] in
/-- the barrier semaphore is the one that outlives the launch. -/
theorem unscopedSems0_eq (c : Dev nD) : (unscopedSems0 c : sProp 𝕄) = semVal (cell c kbar) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨H, HB⟩
  isplitl [HB]; · iexact HB
  iexact H

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- One thing for every device and offset may be counted from the device at the other end. -/
theorem around (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (fore c r) r := by
  rw [BI.bigSep_univ_comm, BI.bigSep_univ_comm (fun (c : Dev nD) (r : Fin 15) => Φ (fore c r) r)]
  exact bigSep_congr fun r _ => bigSep_univ_equiv (shift r) fun c => Φ c r

omit [FloatOps F] in
/-- The tokens dealt to the devices that pay with them. -/
theorem toks_around : (bigSep Finset.univ fun c : Dev nD => (toks c : sProp 𝕄)) ⊢ bigSep Finset.univ fun c : Dev nD => payToks c := by
  unfold toks payToks
  simp only [bigSep_sep']
  rw [around (fun c r => dutyTok ER (cell c kbar) 0 r), around (fun c r => dutyTok ER (cell c (krecv r)) 0 0)]

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  have hg : ∀ c ∈ (Finset.univ : Finset (Dev nD)), iprop(records m ρ K ∗ (positions (F := F) c ∗ payToks (F := F) c)) ⊢ G' m ρ c := fun c _ => by
    unfold G' ghost
    iintro H
    iexists K
    iexact H
  iapply (bigSep_with_persistent (R := records m ρ K) hg)
  isplitr
  · unfold records; isplitl; · iexact HI
    iexact HR
  · rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- What is owed a barrier cell: the signals to its device, counted; -/
theorem owedSig_bar (d c : Dev nD) (l : List (Fin 15)) : owedSig d l (cell c kbar) () = (l.map fun r => if fore d r = c then 1 else 0).sum := by
  induction l with
  | nil => rfl
  | cons r l ih =>
    rw [owedSig, Pi.add_apply, Finsupp.add_apply, ih, tallyAt_apply, List.map_cons, List.sum_cons, Nat.add_comm]
    congr 1
    by_cases h : fore d r = c
    · rw [if_pos h, if_pos ⟨by rw [h], rfl⟩]
    · rw [if_neg h, if_neg fun h' => h (cell_eq_iff.mp h'.1).1.symm]
/-- Transfers owe nothing to a barrier cell; -/
theorem owedSend_bar (d c : Dev nD) (l : List (Fin 15)) : owedSend d l (cell c kbar) () = 0 := by
  by_contra h
  obtain ⟨d', r, h'⟩ := owedSend_pos l (Nat.pos_of_ne_zero h)
  exact absurd (cell_eq_iff.mp h').2 (by simp)
/-- signals nothing to a receive cell. -/
theorem owedSig_recv (d c : Dev nD) (r : Fin 15) (l : List (Fin 15)) : owedSig d l (cell c (krecv r)) () = 0 := by
  by_contra h
  obtain ⟨d', h'⟩ := owedSig_pos l (Nat.pos_of_ne_zero h)
  exact absurd (cell_eq_iff.mp h').2 (by simp)
/-- what is owed a receive cell: the transfers into it. -/
theorem owedSend_recv (d c : Dev nD) (r : Fin 15) (l : List (Fin 15)) :
    owedSend d l (cell c (krecv r)) () = (l.map fun r' => if fore d r' = c ∧ r' = r then 1 else 0).sum * N := by
  induction l with
  | nil => exact (Nat.zero_mul N).symm
  | cons r' l ih =>
    rw [owedSend, Pi.add_apply, Finsupp.add_apply, ih, tallyAt_apply, List.map_cons, List.sum_cons, Nat.add_mul, Nat.add_comm]
    congr 1
    by_cases h : fore d r' = c ∧ r' = r
    · rw [if_pos h, Nat.one_mul, if_pos ⟨by rw [h.1, h.2], rfl⟩]
    · rw [if_neg h, Nat.zero_mul, if_neg fun h' => h ⟨(cell_eq_iff.mp h'.1).1.symm, by
        have := (cell_eq_iff.mp h'.1).2
        simpa [eq_comm] using this⟩]

/-- The credit of each barrier cell is what the others owe it; -/
theorem launch_bar (c : Dev nD) :
    tallyOn (cell c kbar) (launchCredit (Pipeline.owing O₀) 0 (cell c kbar)) = (tallyAt (cell c kbar) () 15 : CellTallies nD τ sig Unit) := by
  unfold tallyAt; refine congrArg _ (Finsupp.ext fun u => ?_); cases u
  rw [Pipeline.launchCredit_owing, Finsupp.single_eq_same,
    Finset.sum_congr rfl fun d _ => show O₀ d (cell c kbar) () = (fwd.map fun r => if fore d r = c then 1 else 0).sum by
      unfold O₀; rw [Pi.add_apply, Finsupp.add_apply, owedSend_bar, owedSig_bar, Nat.zero_add]]
  revert c; decide +kernel
/-- that of each receive cell likewise. -/
theorem launch_recv (c : Dev nD) (r : Fin 15) :
    tallyOn (cell c (krecv r)) (launchCredit (Pipeline.owing O₀) 0 (cell c (krecv r))) = (tallyAt (cell c (krecv r)) () N : CellTallies nD τ sig Unit) := by
  unfold tallyAt; refine congrArg _ (Finsupp.ext fun u => ?_); cases u
  rw [Pipeline.launchCredit_owing, Finsupp.single_eq_same,
    Finset.sum_congr rfl fun d _ => show O₀ d (cell c (krecv r)) () = (ord.map fun r' => if fore d r' = c ∧ r' = r then 1 else 0).sum * N by
      unfold O₀; rw [Pi.add_apply, Finsupp.add_apply, owedSend_recv, owedSig_recv, Nat.add_zero], ← Finset.sum_mul]
  refine Eq.trans (b := 1 * N) (congrArg (· * N) ?_) (Nat.one_mul N)
  revert c r; decide +kernel

/-- The cells a device starts with credit on. -/
abbrev ck (x : Unit ⊕ Fin 15) : CK := match x with | .inl _ => kbar | .inr r => krecv r
/-- The cells are named without repetition. -/
theorem ck_inj : Function.Injective fun x => csem (ck x) := by
  intro a b h
  have := csem_inj h
  rcases a with _ | a <;> rcases b with _ | b
  · rfl
  · exact absurd this (by simp)
  · exact absurd this (by simp)
  · simpa using this

omit [FloatOps F] in
theorem creds (c : Dev nD) : (Pipeline.launchCred O₀ c : sProp 𝕄) ⊢ startCreds c := by
  unfold Pipeline.launchCred startCreds
  have he : (bigSep (Finset.univ.map ⟨fun x => csem (ck x), ck_inj⟩) fun sm : SemLoc sig =>
        (cred (tallyOn ((c.tc : Thread nD τ), sm) (launchCredit (Pipeline.owing O₀) 0 ((c.tc : Thread nD τ), sm))) : sProp 𝕄))
      = iprop(cred (tallyAt (cell c kbar) () 15) ∗ bigSep Finset.univ fun r : Fin 15 => cred (tallyAt (cell c (krecv r)) () N)) := by
    rw [bigSep_map, bigSep_univ_sum, show (Finset.univ : Finset Unit) = {()} from rfl, bigSep_singleton]
    exact congrArg₂ _ (congrArg _ (launch_bar c)) (bigSep_congr fun r _ => congrArg _ (launch_recv c r))
  rw [← he]
  exact bigSep_subset (Finset.subset_univ _)

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hh, Hlev, Hcr, -, HG⟩
  ihave Hc := (creds (F := F) c) $$ Hcr
  imodintro
  unfold start G' hPts
  isplitl
  · isplitl [HG]; · iexact HG
    isplitl [Hc]; · iexact Hc
    isplitl [Hlev]; · iexact Hlev
    iexact Hh
  · iempintro

/-- The launch hands a device what its body starts from; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- What is read of a device at the end: its barrier counter and its second argument. -/
def left (c : Dev nD) : sProp 𝕄 := iprop(unscopedSems0 c ∗ hPts m ρ c)

/-- the body hands back what the exit needs. -/
theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ left wPts
  rw [unscopedSems0_eq]
  iintro ⟨Hw, Hh, Hg, Hzb, Hz⟩
  isplitl [Hzb Hh]
  · isplitl [Hzb]; · iexact Hzb
    iexact Hh
  isplitl [Hz]; · iexact Hz
  isplitl [Hw]
  · iexists _; iexact Hw
  iexists _; iexact Hg

/-- The pipeline's own waits are allowed at these levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds at the end. -/
def finalA (c : Dev nD) (w : Fin cfg0.W) : Buf (Elt F) ((cfg0.win w).arr.view.loc (c : Thread nD τ)) := (dats m ρ 0 c).arrAt w cfg0.N

/-- What the run leaves: every array of the launch at its computed contents, the second argument and every semaphore as at the start. -/
def QC : PUnit × MemSt nD τ sig (Elt F) → Prop := fun r =>
  (∀ c : Dev nD, ∀ w : Fin cfg0.W, r.2.mem ((cfg0.win w).arr.view.loc (c : Thread nD τ)) = finalA m ρ c w)
    ∧ (∀ c : Dev nD, r.2.mem ((c : Thread nD τ).loc main_arg1) = m ((c : Thread nD τ).loc main_arg1))
    ∧ r.2.sem = fun _ => 0

/-- From any memory with zero counters every weakly fair execution of the program ends, and ends so. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => (s.mem ((c : Thread nD τ).loc main_arg1) = m ((c : Thread nD τ).loc main_arg1))
      ∧ ∀ sm : SemLoc sig, sm.isScoped .tc = false → s.sem ((c.tc : Thread nD τ), sm) = 0)
    (hY := fun c s' => by
      unfold left hPts
      iintro ⟨⟨Hu, Hh⟩, -, HSI⟩
      icombine HSI Hh gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c w => (h c).1 w, fun c => (h c).2.2.1, sem_eq_zero hs fun c => (h c).2.2.2⟩)

/-- The first argument is read only. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
What the kernel computes. Device `c`'s result is, entry by entry, the whole arrays' product at row `64 c + i`, with
negative entries replaced by zero: the slot of device `s` is columns `64 s … 64 s + 63` of that row of `x`, row block `s`
of `w` is the rows they meet, and the sum over the sixteen devices of the sixteen products is the sum over all 1024
columns. Adding the sixteen blocks in another order changes nothing here: at the ideal values addition is commutative
and associative.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pipeline.ValueKit.Geometry
public import Idealize.ShloMosaic.Lib.Pointwise.Sums
public import Idealize.ShloMosaic.Lib.Pointwise
public import Idealize.ShloMosaic.Lib.Layout

@[expose] public section

set_option maxRecDepth 16384

noncomputable section

namespace Cert.Exchange

open Cert.KernelIdeal Cert.KernelIdeal.Gen

open Idealize.ShloMosaic
open Idealize.ShloMosaic.TcCoe
open Idealize.SL.Sem
open scoped BigOperators

/-! ## At any float values: the result array, and what the body reads -/

section Reads

variable {F : FTy → Type} [FloatOps F]

variable (m : (ℓ : Loc nD τ sig) → Buf (Elt F) ℓ) (ρ : Dev nD → PrngReg)

/-- The result array ends holding what the body left in the result's staging buffer. -/
theorem finalA_o (c : Dev nD) : finalA m ρ c (1 : Fin 2) = outAt m ρ c :=
  (dats (F := F) m ρ 0 c).arrAt_eq_of_after_last (1 : Fin 2) pt (by decide +kernel) (outAt m ρ c) fun j => rfl

/-- Row `64 t + i` of an array of 1024 rows. -/
abbrev row (t : Fin 16) (i : Fin 64) : Fin 1024 := ⟨t.val * 64 + i.val, by have := t.isLt; have := i.isLt; omega⟩

/-- Entry (`i`, `k`) of row block `t` of device `s`'s `x`. -/
theorem xblk_apply (s t : Dev nD) (i k : Fin 64) :
    xblk m ρ s t (ix2 i k) = m ((s.tc : Thread nD τ).loc main_arg0) (ix2 (row t i) k) := by
  unfold xblk xstg
  show m ((s.tc : Thread nD τ).loc main_arg0) _ = _
  refine congrArg (m ((s.tc : Thread nD τ).loc main_arg0)) (funext fun a => Fin.ext ?_)
  match a with
  | ⟨0, _⟩ => show 0 + 1 * (64 * t.val + 1 * i.val) = t.val * 64 + i.val; omega
  | ⟨1, _⟩ => show 0 + 1 * (0 + 1 * k.val) = k.val; omega

/-- Entry (`i`, `k`) of what device `c` reads of slot `s`: that of row block `c` of device `s`'s `x`. -/
theorem slotVal_apply (c s : Dev nD) (i k : Fin 64) :
    slotVal m ρ c s (ix3 (0 : Fin 1) i k) = m ((s.tc : Thread nD τ).loc main_arg0) (ix2 (row c i) k) := by
  rw [← xblk_apply m ρ s c i k]
  have h0 : (gR s).emb (ix3 (0 : Fin 1) i k) 0 = s := Fin.ext (by show s.val + 1 * 0 = s.val; omega)
  have h1 : (gR s).emb (ix3 (0 : Fin 1) i k) 1 = i := Fin.ext (by show 0 + 1 * i.val = i.val; omega)
  have h2 : (gR s).emb (ix3 (0 : Fin 1) i k) 2 = k := Fin.ext (by show 0 + 1 * k.val = k.val; omega)
  show xblk m ρ ((gR s).emb (ix3 (0 : Fin 1) i k) 0) c (ix2 ((gR s).emb (ix3 (0 : Fin 1) i k) 1) ((gR s).emb (ix3 (0 : Fin 1) i k) 2)) = _
  rw [h0, h1, h2]

/-- Entry (`k`, `j`) of what device `c` reads of row block `s` of `w`. -/
theorem wVal_apply (c s : Dev nD) (k : Fin 64) (j : Fin 1024) :
    wVal m ρ c s (ix2 k j) = m ((c.tc : Thread nD τ).loc main_arg1) (ix2 (row s k) j) := by
  show m ((c.tc : Thread nD τ).loc main_arg1) _ = _
  refine congrArg (m ((c.tc : Thread nD τ).loc main_arg1)) (funext fun a => Fin.ext ?_)
  match a with
  | ⟨0, _⟩ => show 64 * s.val + 1 * k.val = s.val * 64 + k.val; omega
  | ⟨1, _⟩ => show 0 + 1 * j.val = j.val; omega

end Reads

/-! ## At the ideal values: the sixteen products are the one -/

/-- One slot times one row block of `w`, entry by entry. -/
theorem prod_apply (a : Vec Ideal S1x64x64 .f32) (b : Vec Ideal S64x1024 .f32) (i : Fin 64) (j : Fin 1024) :
    k0_pay2 a b (ix2 i j) = ∑ k : Fin 64, a (ix3 (0 : Fin 1) i k) * b (ix2 k j) := by
  refine (Ideal.matmul_plain_apply (M := 64) (K := 64) (N := 1024) none (shapeCast S64x64 a shapeCasts_S1x64x64_S64x64) b
    (constant S64x1024 .f32 0x00000000#32) i j).trans ?_
  show Ideal.ofBits .f32 0x00000000#32 + (∑ k : Fin 64, shapeCast S64x64 a shapeCasts_S1x64x64_S64x64 (ix2 i k) * b (ix2 k j)) = _
  rw [Ideal.ofBits_zero_f32, zero_add]
  refine Finset.sum_congr rfl fun k _ => congrArg (· * b (ix2 k j)) ?_
  simp only [pointwise]

/-- Adding one more block's product, entry by entry. -/
theorem add_prod_apply (v : FVec Ideal S64x1024 .f32) (a : Vec Ideal S1x64x64 .f32) (b : Vec Ideal S64x1024 .f32) (y : S64x1024.Idx) :
    k0_pay3 v a b y = v y + k0_pay2 a b y := rfl

variable (m : (ℓ : Loc nD τ sig) → Buf (Elt Ideal) ℓ) (ρ : Dev nD → PrngReg)

/-- The product device `c` forms from the block of device `s`. -/
abbrev part (c s : Dev nD) : FVec Ideal S64x1024 .f32 := k0_pay2 (slotVal m ρ c s) (wVal m ρ c s)

/-- The running sum after a list of blocks is where it started plus those blocks' products. -/
theorem sumOver_apply (c : Dev nD) (y : S64x1024.Idx) : ∀ (l : List (Fin 15)) (a : FVec Ideal S64x1024 .f32),
    sumOver m ρ c l a y = a y + (l.map fun r => part m ρ c (back c r) y).sum
  | [], a => (add_zero (a y)).symm
  | r :: l, a => by
    rw [sumOver, sumOver_apply c y l, add_prod_apply, List.map_cons, List.sum_cons, add_assoc]

/-- The kernel's whole sum is the sum over all devices. -/
theorem total_apply (c : Dev nD) (y : S64x1024.Idx) : sumOver m ρ c ord (sumOwn m ρ c) y = ∑ s : Dev nD, part m ρ c s y := by
  rw [sumOver_apply, ← List.sum_toFinset _ ord_nodup, show ord.toFinset = Finset.univ from by decide, univ_back c,
    Finset.sum_insert (not_mem_back c), Finset.sum_map]
  rfl

/-! ## Against the whole arrays -/

/-- The reference's result, from the whole `x` and the whole `w`. -/
def refOut (X W : (⟨2, ![1024, 1024]⟩ : Shape).Idx → EReal) : (⟨2, ![1024, 1024]⟩ : Shape).Idx → EReal :=
  fun y => max (∑ k : Fin 1024, X (ix2 (y 0) k) * W (ix2 k (y 1))) 0

variable {m} in
/-- Device `c` holding column block `c` of the whole `X`, and all of `W`: entry (`i`, `j`) of the whole sum on device `c`
    is entry (`64 c + i`, `j`) of the whole product. -/
theorem total_eq_whole {X W : (⟨2, ![1024, 1024]⟩ : Shape).Idx → EReal}
    (hX : ∀ c : Dev nD, m ((c.tc : Thread nD τ).loc main_arg0) = Layout.block ⟨2, ![1024, 64]⟩ ⟨2, ![1024, 1024]⟩ 1 16 c X)
    (hW : ∀ c : Dev nD, m ((c.tc : Thread nD τ).loc main_arg1) = W) (c : Dev nD) (i : Fin 64) (j : Fin 1024) :
    sumOver m ρ c ord (sumOwn m ρ c) (ix2 i j) = ∑ k : Fin 1024, X (ix2 (row c i) k) * W (ix2 k j) := by
  rw [total_apply, Fin.sum_univ_tiles 16 64 rfl]
  refine Finset.sum_congr rfl fun s _ => ?_
  rw [part, prod_apply]
  refine Finset.sum_congr rfl fun k _ => ?_
  rw [slotVal_apply, wVal_apply, hX, hW, Layout.block_apply]
  refine congrArg (fun z => X z * _) (funext fun a => Fin.ext ?_)
  match a with
  | ⟨0, _⟩ => rfl
  | ⟨1, _⟩ => rfl

variable {m} in
/-- So each device's result is its row block of the reference's. -/
theorem outAt_eq {X W : (⟨2, ![1024, 1024]⟩ : Shape).Idx → EReal}
    (hX : ∀ c : Dev nD, m ((c.tc : Thread nD τ).loc main_arg0) = Layout.block ⟨2, ![1024, 64]⟩ ⟨2, ![1024, 1024]⟩ 1 16 c X)
    (hW : ∀ c : Dev nD, m ((c.tc : Thread nD τ).loc main_arg1) = W) (c : Dev nD) :
    outAt m ρ c = Layout.block ⟨2, ![64, 1024]⟩ ⟨2, ![1024, 1024]⟩ 0 16 c (refOut X W) := by
  funext y
  obtain ⟨i, j, rfl⟩ : ∃ (i : Fin 64) (j : Fin 1024), y = ix2 i j :=
    ⟨y 0, y 1, funext fun a => by match a with
      | ⟨0, _⟩ => rfl
      | ⟨1, _⟩ => rfl⟩
  show max (sumOver m ρ c ord (sumOwn m ρ c) (ix2 i j)) (Ideal.ofBits .f32 0x00000000#32) = _
  rw [total_eq_whole ρ hX hW, Ideal.ofBits_zero_f32]
  rfl

/-- The reference's composed term is `refOut` of its arguments. -/
theorem reference_eq (X W : FVec Ideal Cert.ReferenceIdeal.S1024x1024 .f32) :
    maximumf (Host.dotGeneral Cert.ReferenceIdeal.dot_S1024x1024_S1024x1024_S1024x1024_1_0_0_1_n_n none X W)
      (broadcastInDim Cert.ReferenceIdeal.S1024x1024 ![] Cert.ReferenceIdeal.Facts₀.bcast_S_S1024x1024
        (constant Cert.ReferenceIdeal.S_ .f32 0x00000000#32)) = refOut X W := by
  funext y
  obtain ⟨i, j, rfl⟩ : ∃ (i j : Fin 1024), y = ix2 i j :=
    ⟨y 0, y 1, funext fun a => by match a with
      | ⟨0, _⟩ => rfl
      | ⟨1, _⟩ => rfl⟩
  show max (Host.dotGeneral (DotDims.plain 1024 1024 1024) none X W (ix2 i j)) (Ideal.ofBits .f32 0x00000000#32) = _
  rw [Ideal.ofBits_zero_f32]
  exact congrArg (max · 0) (StackMember.dotGeneral_plain_apply none X W i j)

end Cert.Exchange

end
-- ==== Proof.lean ====
/-
The proof of `Cert.Claim`.

  * `frame_kernel`, `frame_ideal` — the kernel's run on sixteen devices: it terminates, leaves its two arguments as they
    were and every counter at zero. The run (`Exchange.run_main`, `Proof/Launch.lean`) is written once, at any float
    values, for the idealized program; the kernel's own program is the same text, so its frame is the same run read at
    the bit-exact values.
  * `frame_reference` — the reference is four host operations on one device with no semaphore at all.
  * `algebraic` — each device's result is its row block of the reference's (`Exchange.outAt_eq`, `Exchange.reference_eq`,
    `Proof/Value.lean`).

`Proof/Geometry.lean` says which pieces of which buffers the devices exchange; `Proof/Protocol.lean` which resource each
semaphore carries; `Proof/Steps.lean` what each operation of the body does with them; `Proof/Body.lean` runs one device's
body; `Proof/Launch.lean` puts the sixteen together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

open Cert.KernelIdeal Cert.Exchange in
/-- The kernel's text, at any float values, run from any memory: the arguments end as they were, every counter at zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h.1 c 0).trans (finalA_x m ρ c), h.2.1 c⟩, h.2.2⟩) (run_main m ρ)

section

variable {F : FTy → Type} [FloatOps F]

/-- The two programs' kernel tables are one: their one kernel is the same text. -/
theorem defs₀_eq : @Cert.Kernel.defs₀ F _ _ = @Cert.KernelIdeal.defs₀ F _ _ := by
  funext p l a
  match p, l, a with
  | .tc, ⟨0, _⟩, (t, s) => rfl
  | .scScalar _, _, _ => rfl
  | .scVector _ _, _, _ => rfl

/-- So are their whole tables, the pipeline's entries added. -/
theorem defs_eq : @Cert.Kernel.defs F _ _ = @Cert.KernelIdeal.defs F _ _ := by
  unfold Cert.Kernel.defs
  rw [defs₀_eq]
  rfl

end

/-- The kernel at the bit-exact values runs, leaves its arguments as they were and every counter at zero. -/
theorem frame_kernel : Cert.quiescent_Kernel := fun m ρ _ => by
  rw [defs_eq]
  exact frame (F := Bits) m ρ

/-- The idealized kernel runs, leaves its arguments as they were and every counter at zero. -/
theorem frame_ideal : Cert.quiescent_KernelIdeal := fun m ρ _ => frame (F := Ideal) m ρ

/-- The idealized reference runs and leaves its arguments as they were; it has no counter to leave. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Nothing was replaced in the idealization. -/
theorem preserves : Cert.preserves_Kernel_KernelIdeal := trivial

/-- From the same whole arrays, cut over the devices for the kernel, each device's result is its row block of the
    reference's. -/
theorem algebraic : Cert.algebraic_KernelIdeal_ReferenceIdeal := fun m ρ m' ρ' _ hin =>
  ⟨Cert.Exchange.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c 1).trans ((Cert.Exchange.finalA_o m ρ c).trans
          (Cert.Exchange.outAt_eq ρ (fun c => (hin c).1) (fun c => (hin c).2) c)),
        (h.1 c 0).trans (Cert.Exchange.finalA_x m ρ c), h.2.1 c⟩)
      (Cert.Exchange.run_main (F := Ideal) m ρ),
    (θ_run Cert.ReferenceIdeal.defs _ _).mono
      (fun _ h => ⟨((h 0).1).trans (Cert.Exchange.reference_eq _ _), (h 0).2⟩)
      (Cert.ReferenceIdeal.Value.run m' ρ')⟩

/-- Everything claimed. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
